-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_eight_boxes_finite_logits [hPre_eight_boxes_finite_logits : Cert.Pre_eight_boxes_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_eight_boxes_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_eight_boxes_finite_logits [hPre_eight_boxes_finite_logits : Cert.Pre_eight_boxes_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_eight_boxes_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_eight_boxes_finite_logits [hKernelIdeal : Cert.KernelIdeal.Facts] [hPre_eight_boxes_finite_logits : Cert.Pre_eight_boxes_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_eight_boxes_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_eight_boxes_finite_logits [hReferenceIdeal : Cert.ReferenceIdeal.Facts] [hPre_eight_boxes_finite_logits : Cert.Pre_eight_boxes_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_eight_boxes_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_eight_boxes_finite_logits [hKernelIdeal : Cert.KernelIdeal.Facts] [hReferenceIdeal : Cert.ReferenceIdeal.Facts] [hPre_eight_boxes_finite_logits : Cert.Pre_eight_boxes_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_eight_boxes_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_v329) = v1 c
          ∧ r.2.mem ((c.tc : Thread Cert.ReferenceIdeal.nD Cert.ReferenceIdeal.τ).loc Cert.ReferenceIdeal.main_v340) = v2 c
          ∧ r.2.mem ((c.tc : Thread Cert.ReferenceIdeal.nD Cert.ReferenceIdeal.τ).loc Cert.ReferenceIdeal.main_v347) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_eight_boxes_finite_logits : Cert.Pre_eight_boxes_finite_logits.Facts),
    quiescent_Kernel (hKernel := hKernel)
    ∧ quiescent_KernelIdeal (hKernelIdeal := hKernelIdeal)
    ∧ quiescent_KernelIdeal_pre_eight_boxes_finite_logits (hKernelIdeal := hKernelIdeal) (hPre_eight_boxes_finite_logits := hPre_eight_boxes_finite_logits)
    ∧ quiescent_ReferenceIdeal (hReferenceIdeal := hReferenceIdeal)
    ∧ quiescent_ReferenceIdeal_pre_eight_boxes_finite_logits (hReferenceIdeal := hReferenceIdeal) (hPre_eight_boxes_finite_logits := hPre_eight_boxes_finite_logits)
    ∧ preserves_Kernel_KernelIdeal
    ∧ algebraic_KernelIdeal_ReferenceIdeal_pre_eight_boxes_finite_logits (hKernelIdeal := hKernelIdeal) (hReferenceIdeal := hReferenceIdeal) (hPre_eight_boxes_finite_logits := hPre_eight_boxes_finite_logits)
-- ==== Pre_eight_boxes_finite_logits.lean ====
abbrev S16x14x14x5x25 : Shape := ⟨5, ![16, 14, 14, 5, 25]⟩
abbrev S16x30x5 : Shape := ⟨3, ![16, 30, 5]⟩
abbrev S16x30x1 : Shape := ⟨3, ![16, 30, 1]⟩
abbrev S16x30 : Shape := ⟨2, ![16, 30]⟩
abbrev S_ : Shape := ⟨0, ![]⟩
abbrev S16x14x14x5x20 : Shape := ⟨5, ![16, 14, 14, 5, 20]⟩

class Facts : Prop where
  slices_S16x30x5_S16x30x1_0_0_4 : S16x30x5.Slices ![0, 0, 4] S16x30x1
  shapeCasts_S16x30x1_S16x30 : S16x30x1.ShapeCasts S16x30
  bcast_S_S16x30 : S_.BroadcastsInDim S16x30 (![] : Fin 0 → Fin S16x30.rank)
  reducesTo_S16x30_S_d0_1 : S16x30.ReducesTo [0, 1] S_
  h_S_ : 0 < S_.numel
  slices_S16x14x14x5x25_S16x14x14x5x20_0_0_0_0_5 : S16x14x14x5x25.Slices ![0, 0, 0, 0, 5] S16x14x14x5x20
  bcast_S_S16x14x14x5x20 : S_.BroadcastsInDim S16x14x14x5x20 (![] : Fin 0 → Fin S16x14x14x5x20.rank)
  reducesTo_S16x14x14x5x20_S_d0_1_2_3_4 : S16x14x14x5x20.ReducesTo [0, 1, 2, 3, 4] S_

variable [Facts]

def fn {F : FTy → Type} [FloatOps F] (main_arg0 : FVec F S16x14x14x5x25 .f32) (main_arg1 : FVec F S16x30x5 .f32) : IVec S_ 1 :=
  let main_v0 : FVec F S16x30x1 .f32 := (extractStridedSlice S16x30x1 ![0, 0, 4] · slices_S16x30x5_S16x30x1_0_0_4) main_arg1
  let main_v1 : FVec F S16x30 .f32 := shapeCast S16x30 main_v0 shapeCasts_S16x30x1_S16x30
  let main_cst : FVec F S_ .f32 := constant S_ .f32 0x3F000000#32
  let main_v2 : FVec F S16x30 .f32 := broadcastInDim S16x30 ![] bcast_S_S16x30 main_cst
  let main_v3 : IVec S16x30 1 := cmpf .ogt main_v1 main_v2
  let main_v4 : IVec S16x30 32 := iotaInDim S16x30 32 1
  let main_c : IVec S_ 32 := constantI S_ 32 8#32
  let main_v5 : IVec S16x30 32 := broadcastInDim S16x30 ![] bcast_S_S16x30 main_c
  let main_v6 : IVec S16x30 1 := cmpi .slt main_v4 main_v5
  let main_v7 : IVec S16x30 1 := cmpi .eq main_v3 main_v6
  let main_c_0 : IVec S_ 1 := constantI S_ 1 1#1
  let main_v8 : IVec S_ 1 := (fun x v => Host.reduce IntOp.andi x v reducesTo_S16x30_S_d0_1 h_S_) main_v7 main_c_0
  let main_v9 : FVec F S16x14x14x5x20 .f32 := (extractStridedSlice S16x14x14x5x20 ![0, 0, 0, 0, 5] · slices_S16x14x14x5x25_S16x14x14x5x20_0_0_0_0_5) main_arg0
  let main_v10 : FVec F S16x14x14x5x20 .f32 := Host.absf main_v9
  let main_cst_1 : FVec F S_ .f32 := constant S_ .f32 0x7F800000#32
  let main_v11 : FVec F S16x14x14x5x20 .f32 := broadcastInDim S16x14x14x5x20 ![] bcast_S_S16x14x14x5x20 main_cst_1
  let main_v12 : IVec S16x14x14x5x20 1 := cmpf .olt main_v10 main_v11
  let main_c_2 : IVec S_ 1 := constantI S_ 1 1#1
  let main_v13 : IVec S_ 1 := (fun x v => Host.reduce IntOp.andi x v reducesTo_S16x14x14x5x20_S_d0_1_2_3_4 h_S_) main_v12 main_c_2
  let main_v14 : IVec S_ 1 := andi main_v8 main_v13
  main_v14
-- ==== Kernel.lean ====
abbrev S16x14x14x5x25 : Shape := ⟨5, ![16, 14, 14, 5, 25]⟩
abbrev S16x30x5 : Shape := ⟨3, ![16, 30, 5]⟩
abbrev S4x980 : Shape := ⟨2, ![4, 980]⟩
abbrev S16x980x25 : Shape := ⟨3, ![16, 980, 25]⟩
abbrev S16x25x980 : Shape := ⟨3, ![16, 25, 980]⟩
abbrev S1x1 : Shape := ⟨2, ![1, 1]⟩
abbrev S8x25x980 : Shape := ⟨3, ![8, 25, 980]⟩
abbrev S8x30x5 : Shape := ⟨3, ![8, 30, 5]⟩
abbrev S1x25x980 : Shape := ⟨3, ![1, 25, 980]⟩
abbrev S25x980 : Shape := ⟨2, ![25, 980]⟩
abbrev S1x30x5 : Shape := ⟨3, ![1, 30, 5]⟩
abbrev S30x5 : Shape := ⟨2, ![30, 5]⟩
abbrev S1x980 : Shape := ⟨2, ![1, 980]⟩
abbrev S5x980 : Shape := ⟨2, ![5, 980]⟩
abbrev S2x980 : Shape := ⟨2, ![2, 980]⟩
abbrev S8x1 : Shape := ⟨2, ![8, 1]⟩
abbrev S8x980 : Shape := ⟨2, ![8, 980]⟩
abbrev S980 : Shape := ⟨1, ![980]⟩
abbrev S1x1x980 : Shape := ⟨3, ![1, 1, 980]⟩
abbrev S1 : Shape := ⟨1, ![1]⟩
abbrev S1x1x1 : Shape := ⟨3, ![1, 1, 1]⟩
abbrev S8 : Shape := ⟨1, ![8]⟩
abbrev S1x8x980 : Shape := ⟨3, ![1, 8, 980]⟩
abbrev S20x980 : Shape := ⟨2, ![20, 980]⟩
abbrev S1x20 : Shape := ⟨2, ![1, 20]⟩
abbrev S_ : Shape := ⟨0, ![]⟩

abbrev nBuf : Space → Nat
  | .hbm => 13
  | .vmem => 8
  | .smem => 0
  | _ => 0

abbrev bufTy : (tb : Table) → Fin (tcTables nBuf tb) → BufTy
  | .hbm, ⟨0, _⟩ => ⟨S16x14x14x5x25, .f32⟩
  | .hbm, ⟨1, _⟩ => ⟨S16x30x5, .f32⟩
  | .hbm, ⟨2, _⟩ => ⟨S4x980, .f32⟩
  | .hbm, ⟨3, _⟩ => ⟨S16x980x25, .f32⟩
  | .hbm, ⟨4, _⟩ => ⟨S16x25x980, .f32⟩
  | .hbm, ⟨5, _⟩ => ⟨S1x1, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8x25x980, .f32⟩
  | .local _ .vmem, ⟨1, _⟩ => ⟨S8x25x980, .f32⟩
  | .local _ .vmem, ⟨2, _⟩ => ⟨S8x30x5, .f32⟩
  | .local _ .vmem, ⟨3, _⟩ => ⟨S8x30x5, .f32⟩
  | .local _ .vmem, ⟨4, _⟩ => ⟨S4x980, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S16x14x14x5x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x25x980 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x30x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x980 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16x14x14x5x25 : Shape := ⟨5, ![16, 14, 14, 5, 25]⟩
abbrev S16x30x5 : Shape := ⟨3, ![16, 30, 5]⟩
abbrev S5x2 : Shape := ⟨2, ![5, 2]⟩
abbrev S16x14x14x5x2 : Shape := ⟨5, ![16, 14, 14, 5, 2]⟩
abbrev S_ : Shape := ⟨0, ![]⟩
abbrev S16x14x14x5x4 : Shape := ⟨5, ![16, 14, 14, 5, 4]⟩
abbrev S16x14x14x5x1 : Shape := ⟨5, ![16, 14, 14, 5, 1]⟩
abbrev S16x14x14x5 : Shape := ⟨4, ![16, 14, 14, 5]⟩
abbrev S16x14x14x5x20 : Shape := ⟨5, ![16, 14, 14, 5, 20]⟩
abbrev S14 : Shape := ⟨1, ![14]⟩
abbrev S1x1x14x1 : Shape := ⟨4, ![1, 1, 14, 1]⟩
abbrev S1x14x1x1 : Shape := ⟨4, ![1, 14, 1, 1]⟩
abbrev S5x1 : Shape := ⟨2, ![5, 1]⟩
abbrev S5 : Shape := ⟨1, ![5]⟩
abbrev S1x1x1x5 : Shape := ⟨4, ![1, 1, 1, 5]⟩
abbrev S16x980x4 : Shape := ⟨3, ![16, 980, 4]⟩
abbrev S16x30x1 : Shape := ⟨3, ![16, 30, 1]⟩
abbrev S16x30 : Shape := ⟨2, ![16, 30]⟩
abbrev S16x30x4 : Shape := ⟨3, ![16, 30, 4]⟩
abbrev S16x980x1 : Shape := ⟨3, ![16, 980, 1]⟩
abbrev S16x980 : Shape := ⟨2, ![16, 980]⟩
abbrev S16x1x980 : Shape := ⟨3, ![16, 1, 980]⟩
abbrev S16x30x980 : Shape := ⟨3, ![16, 30, 980]⟩
abbrev S16x30x2 : Shape := ⟨3, ![16, 30, 2]⟩
abbrev S16 : Shape := ⟨1, ![16]⟩
abbrev S16x1 : Shape := ⟨2, ![16, 1]⟩

abbrev nBuf : Space → Nat
  | .hbm => 542
  | .vmem => 0
  | .smem => 0
  | _ => 0

abbrev hbmTy0_0 (i : Nat) : BufTy := match i % 128 with
  | 0 => ⟨S16x14x14x5x25, .f32⟩
  | 1 => ⟨S16x30x5, .f32⟩
  | 2 => ⟨S5x2, .f32⟩
  | 3 => ⟨S16x14x14x5x2, .f32⟩
  | 4 => ⟨S16x14x14x5x2, .f32⟩
  | 5 => ⟨S16x14x14x5x2, .f32⟩
  | 6 => ⟨S_, .f32⟩
  | 7 => ⟨S16x14x14x5x2, .f32⟩
  | 8 => ⟨S16x14x14x5x2, .f32⟩
  | 9 => ⟨S_, .f32⟩
  | 10 => ⟨S16x14x14x5x2, .f32⟩
  | 11 => ⟨S16x14x14x5x2, .f32⟩
  | 12 => ⟨S16x14x14x5x2, .f32⟩
  | 13 => ⟨S16x14x14x5x2, .f32⟩
  | 14 => ⟨S16x14x14x5x2, .f32⟩
  | 15 => ⟨S_, .f32⟩
  | 16 => ⟨S16x14x14x5x2, .f32⟩
  | 17 => ⟨S16x14x14x5x2, .f32⟩
  | 18 => ⟨S_, .f32⟩
  | 19 => ⟨S16x14x14x5x2, .f32⟩
  | 20 => ⟨S16x14x14x5x2, .f32⟩
  | 21 => ⟨S_, .f32⟩
  | 22 => ⟨S16x14x14x5x2, .f32⟩
  | 23 => ⟨S16x14x14x5x2, .f32⟩
  | 24 => ⟨S16x14x14x5x4, .f32⟩
  | 25 => ⟨S16x14x14x5x1, .f32⟩
  | 26 => ⟨S16x14x14x5, .f32⟩
  | 27 => ⟨S16x14x14x5, .f32⟩
  | 28 => ⟨S16x14x14x5, .f32⟩
  | 29 => ⟨S_, .f32⟩
  | 30 => ⟨S16x14x14x5, .f32⟩
  | 31 => ⟨S16x14x14x5, .f32⟩
  | 32 => ⟨S_, .f32⟩
  | 33 => ⟨S16x14x14x5, .f32⟩
  | 34 => ⟨S16x14x14x5, .f32⟩
  | 35 => ⟨S16x14x14x5x20, .f32⟩
  | 36 => ⟨S14, .f32⟩
  | 37 => ⟨S16x14x14x5x1, .f32⟩
  | 38 => ⟨S16x14x14x5, .f32⟩
  | 39 => ⟨S1x1x14x1, .f32⟩
  | 40 => ⟨S16x14x14x5, .f32⟩
  | 41 => ⟨S16x14x14x5, .f32⟩
  | 42 => ⟨S_, .f32⟩
  | 43 => ⟨S16x14x14x5, .f32⟩
  | 44 => ⟨S16x14x14x5, .f32⟩
  | 45 => ⟨S16x14x14x5x1, .f32⟩
  | 46 => ⟨S16x14x14x5, .f32⟩
  | 47 => ⟨S1x14x1x1, .f32⟩
  | 48 => ⟨S16x14x14x5, .f32⟩
  | 49 => ⟨S16x14x14x5, .f32⟩
  | 50 => ⟨S_, .f32⟩
  | 51 => ⟨S16x14x14x5, .f32⟩
  | 52 => ⟨S16x14x14x5, .f32⟩
  | 53 => ⟨S16x14x14x5x1, .f32⟩
  | 54 => ⟨S16x14x14x5, .f32⟩
  | 55 => ⟨S16x14x14x5, .f32⟩
  | 56 => ⟨S5x1, .f32⟩
  | 57 => ⟨S5, .f32⟩
  | 58 => ⟨S1x1x1x5, .f32⟩
  | 59 => ⟨S16x14x14x5, .f32⟩
  | 60 => ⟨S16x14x14x5, .f32⟩
  | 61 => ⟨S_, .f32⟩
  | 62 => ⟨S16x14x14x5, .f32⟩
  | 63 => ⟨S16x14x14x5, .f32⟩
  | 64 => ⟨S16x14x14x5x1, .f32⟩
  | 65 => ⟨S16x14x14x5, .f32⟩
  | 66 => ⟨S16x14x14x5, .f32⟩
  | 67 => ⟨S5x1, .f32⟩
  | 68 => ⟨S5, .f32⟩
  | 69 => ⟨S1x1x1x5, .f32⟩
  | 70 => ⟨S16x14x14x5, .f32⟩
  | 71 => ⟨S16x14x14x5, .f32⟩
  | 72 => ⟨S_, .f32⟩
  | 73 => ⟨S16x14x14x5, .f32⟩
  | 74 => ⟨S16x14x14x5, .f32⟩
  | 75 => ⟨S16x14x14x5x1, .f32⟩
  | 76 => ⟨S16x14x14x5x1, .f32⟩
  | 77 => ⟨S16x14x14x5x1, .f32⟩
  | 78 => ⟨S16x14x14x5x1, .f32⟩
  | 79 => ⟨S16x14x14x5x4, .f32⟩
  | 80 => ⟨S16x980x4, .f32⟩
  | 81 => ⟨S16x30x1, .f32⟩
  | 82 => ⟨S16x30, .f32⟩
  | 83 => ⟨S16x30x1, .f32⟩
  | 84 => ⟨S16x30, .f32⟩
  | 85 => ⟨S_, .f32⟩
  | 86 => ⟨S16x30, .f32⟩
  | 87 => ⟨S16x30, .f32⟩
  | 88 => ⟨S16x30, .f32⟩
  | 89 => ⟨S16x30x1, .f32⟩
  | 90 => ⟨S16x30, .f32⟩
  | 91 => ⟨S16x30x1, .f32⟩
  | 92 => ⟨S16x30, .f32⟩
  | 93 => ⟨S_, .f32⟩
  | 94 => ⟨S16x30, .f32⟩
  | 95 => ⟨S16x30, .f32⟩
  | 96 => ⟨S16x30, .f32⟩
  | 97 => ⟨S16x30x1, .f32⟩
  | 98 => ⟨S16x30, .f32⟩
  | 99 => ⟨S16x30x1, .f32⟩
  | 100 => ⟨S16x30, .f32⟩
  | 101 => ⟨S16x30x1, .f32⟩
  | 102 => ⟨S16x30x1, .f32⟩
  | 103 => ⟨S16x30x1, .f32⟩
  | 104 => ⟨S16x30x1, .f32⟩
  | 105 => ⟨S16x30x4, .f32⟩
  | 106 => ⟨S16x30x1, .f32⟩
  | 107 => ⟨S16x30, .f32⟩
  | 108 => ⟨S_, .f32⟩
  | 109 => ⟨S16x30, .f32⟩
  | 110 => ⟨S16x30, .i1⟩
  | 111 => ⟨S16x30x1, .f32⟩
  | 112 => ⟨S16x30, .f32⟩
  | 113 => ⟨S16x30x1, .f32⟩
  | 114 => ⟨S16x30, .f32⟩
  | 115 => ⟨S_, .f32⟩
  | 116 => ⟨S16x30, .f32⟩
  | 117 => ⟨S16x30, .f32⟩
  | 118 => ⟨S16x30, .f32⟩
  | 119 => ⟨S16x30x1, .f32⟩
  | 120 => ⟨S16x30, .f32⟩
  | 121 => ⟨S16x30x1, .f32⟩
  | 122 => ⟨S16x30, .f32⟩
  | 123 => ⟨S_, .f32⟩
  | 124 => ⟨S16x30, .f32⟩
  | 125 => ⟨S16x30, .f32⟩
  | 126 => ⟨S16x30, .f32⟩
  | 127 => ⟨S16x30x1, .f32⟩
  | _ => ⟨S16x14x14x5x25, .f32⟩

abbrev hbmTy0_1 (i : Nat) : BufTy := match i % 128 with
  | 0 => ⟨S16x30, .f32⟩
  | 1 => ⟨S16x30x1, .f32⟩
  | 2 => ⟨S16x30, .f32⟩
  | 3 => ⟨S_, .f32⟩
  | 4 => ⟨S16x30, .f32⟩
  | 5 => ⟨S16x30, .f32⟩
  | 6 => ⟨S16x30, .f32⟩
  | 7 => ⟨S16x30x1, .f32⟩
  | 8 => ⟨S16x30, .f32⟩
  | 9 => ⟨S16x30x1, .f32⟩
  | 10 => ⟨S16x30, .f32⟩
  | 11 => ⟨S_, .f32⟩
  | 12 => ⟨S16x30, .f32⟩
  | 13 => ⟨S16x30, .f32⟩
  | 14 => ⟨S16x30, .f32⟩
  | 15 => ⟨S16x980x1, .f32⟩
  | 16 => ⟨S16x980, .f32⟩
  | 17 => ⟨S16x980x1, .f32⟩
  | 18 => ⟨S16x980, .f32⟩
  | 19 => ⟨S_, .f32⟩
  | 20 => ⟨S16x980, .f32⟩
  | 21 => ⟨S16x980, .f32⟩
  | 22 => ⟨S16x980, .f32⟩
  | 23 => ⟨S16x980x1, .f32⟩
  | 24 => ⟨S16x980, .f32⟩
  | 25 => ⟨S16x980x1, .f32⟩
  | 26 => ⟨S16x980, .f32⟩
  | 27 => ⟨S_, .f32⟩
  | 28 => ⟨S16x980, .f32⟩
  | 29 => ⟨S16x980, .f32⟩
  | 30 => ⟨S16x980, .f32⟩
  | 31 => ⟨S16x980x1, .f32⟩
  | 32 => ⟨S16x980, .f32⟩
  | 33 => ⟨S16x980x1, .f32⟩
  | 34 => ⟨S16x980, .f32⟩
  | 35 => ⟨S_, .f32⟩
  | 36 => ⟨S16x980, .f32⟩
  | 37 => ⟨S16x980, .f32⟩
  | 38 => ⟨S16x980, .f32⟩
  | 39 => ⟨S16x980x1, .f32⟩
  | 40 => ⟨S16x980, .f32⟩
  | 41 => ⟨S16x980x1, .f32⟩
  | 42 => ⟨S16x980, .f32⟩
  | 43 => ⟨S_, .f32⟩
  | 44 => ⟨S16x980, .f32⟩
  | 45 => ⟨S16x980, .f32⟩
  | 46 => ⟨S16x980, .f32⟩
  | 47 => ⟨S16x30x1, .f32⟩
  | 48 => ⟨S16x1x980, .f32⟩
  | 49 => ⟨S16x30x980, .f32⟩
  | 50 => ⟨S16x30x980, .f32⟩
  | 51 => ⟨S16x30x980, .f32⟩
  | 52 => ⟨S16x30x1, .f32⟩
  | 53 => ⟨S16x1x980, .f32⟩
  | 54 => ⟨S16x30x980, .f32⟩
  | 55 => ⟨S16x30x980, .f32⟩
  | 56 => ⟨S16x30x980, .f32⟩
  | 57 => ⟨S16x30x1, .f32⟩
  | 58 => ⟨S16x1x980, .f32⟩
  | 59 => ⟨S16x30x980, .f32⟩
  | 60 => ⟨S16x30x980, .f32⟩
  | 61 => ⟨S16x30x980, .f32⟩
  | 62 => ⟨S16x30x1, .f32⟩
  | 63 => ⟨S16x1x980, .f32⟩
  | 64 => ⟨S16x30x980, .f32⟩
  | 65 => ⟨S16x30x980, .f32⟩
  | 66 => ⟨S16x30x980, .f32⟩
  | 67 => ⟨S16x30x980, .f32⟩
  | 68 => ⟨S_, .f32⟩
  | 69 => ⟨S16x30x980, .f32⟩
  | 70 => ⟨S16x30x980, .f32⟩
  | 71 => ⟨S16x30x980, .f32⟩
  | 72 => ⟨S_, .f32⟩
  | 73 => ⟨S16x30x980, .f32⟩
  | 74 => ⟨S16x30x980, .f32⟩
  | 75 => ⟨S16x30x980, .f32⟩
  | 76 => ⟨S16x30, .f32⟩
  | 77 => ⟨S16x30, .f32⟩
  | 78 => ⟨S16x30, .f32⟩
  | 79 => ⟨S16x980, .f32⟩
  | 80 => ⟨S16x980, .f32⟩
  | 81 => ⟨S16x980, .f32⟩
  | 82 => ⟨S16x30x1, .f32⟩
  | 83 => ⟨S16x1x980, .f32⟩
  | 84 => ⟨S16x30x980, .f32⟩
  | 85 => ⟨S16x30x980, .f32⟩
  | 86 => ⟨S16x30x980, .f32⟩
  | 87 => ⟨S16x30x980, .f32⟩
  | 88 => ⟨S_, .f32⟩
  | 89 => ⟨S16x30x980, .f32⟩
  | 90 => ⟨S16x30x980, .f32⟩
  | 91 => ⟨S16x30x980, .f32⟩
  | 92 => ⟨S16x30x1, .i1⟩
  | 93 => ⟨S16x30x1, .f32⟩
  | 94 => ⟨S16x30x980, .f32⟩
  | 95 => ⟨S16x30x980, .f32⟩
  | 96 => ⟨S_, .f32⟩
  | 97 => ⟨S16x30x980, .f32⟩
  | 98 => ⟨S16x30x980, .i1⟩
  | 99 => ⟨S_, .i1⟩
  | 100 => ⟨S16x980, .i1⟩
  | 101 => ⟨S16x14x14x5, .i1⟩
  | 102 => ⟨S16x14x14x5, .f32⟩
  | 103 => ⟨S_, .f32⟩
  | 104 => ⟨S16x14x14x5, .f32⟩
  | 105 => ⟨S16x14x14x5, .f32⟩
  | 106 => ⟨S16x30x980, .i32⟩
  | 107 => ⟨S_, .f32⟩
  | 108 => ⟨S_, .i32⟩
  | 109 => ⟨S16x30, .f32⟩
  | 110 => ⟨S16x30, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S16x30, .i32⟩
  | 118 => ⟨S16x30, .i32⟩
  | 119 => ⟨S_, .i32⟩
  | 120 => ⟨S16x30, .i32⟩
  | 121 => ⟨S16x30, .i1⟩
  | 122 => ⟨S_, .i32⟩
  | 123 => ⟨S16x30, .i32⟩
  | 124 => ⟨S16x30, .i1⟩
  | 125 => ⟨S_, .i32⟩
  | 126 => ⟨S_, .i1⟩
  | 127 => ⟨S16x30, .i1⟩
  | _ => ⟨S16x14x14x5x25, .f32⟩

abbrev hbmTy0_2 (i : Nat) : BufTy := match i % 128 with
  | 0 => ⟨S16x30, .i1⟩
  | 1 => ⟨S16x30, .i1⟩
  | 2 => ⟨S16x30, .i32⟩
  | 3 => ⟨S16x30, .i32⟩
  | 4 => ⟨S16x30, .i32⟩
  | 5 => ⟨S_, .i32⟩
  | 6 => ⟨S_, .i32⟩
  | 7 => ⟨S16x30, .i32⟩
  | 8 => ⟨S16x30, .i32⟩
  | 9 => ⟨S16x30, .i32⟩
  | 10 => ⟨S_, .i32⟩
  | 11 => ⟨S16x30, .i32⟩
  | 12 => ⟨S16x30, .i1⟩
  | 13 => ⟨S16x30, .i32⟩
  | 14 => ⟨S16x30, .i32⟩
  | 15 => ⟨S_, .i32⟩
  | 16 => ⟨S16x30, .i32⟩
  | 17 => ⟨S16x30, .i1⟩
  | 18 => ⟨S16x30, .i1⟩
  | 19 => ⟨S_, .i32⟩
  | 20 => ⟨S16x30, .i32⟩
  | 21 => ⟨S16x30, .i32⟩
  | 22 => ⟨S16x30, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S16x30, .i32⟩
  | 30 => ⟨S16x30, .i32⟩
  | 31 => ⟨S_, .i32⟩
  | 32 => ⟨S16x30, .i32⟩
  | 33 => ⟨S16x30, .i1⟩
  | 34 => ⟨S_, .i32⟩
  | 35 => ⟨S16x30, .i32⟩
  | 36 => ⟨S16x30, .i1⟩
  | 37 => ⟨S_, .i32⟩
  | 38 => ⟨S_, .i1⟩
  | 39 => ⟨S16x30, .i1⟩
  | 40 => ⟨S16x30, .i1⟩
  | 41 => ⟨S16x30, .i1⟩
  | 42 => ⟨S16x30, .i32⟩
  | 43 => ⟨S16x30, .i32⟩
  | 44 => ⟨S16x30, .i32⟩
  | 45 => ⟨S_, .i32⟩
  | 46 => ⟨S_, .i32⟩
  | 47 => ⟨S16x30, .i32⟩
  | 48 => ⟨S16x30, .i32⟩
  | 49 => ⟨S16x30, .i32⟩
  | 50 => ⟨S_, .i32⟩
  | 51 => ⟨S16x30, .i32⟩
  | 52 => ⟨S16x30, .i1⟩
  | 53 => ⟨S16x30, .i32⟩
  | 54 => ⟨S16x30, .i32⟩
  | 55 => ⟨S_, .i32⟩
  | 56 => ⟨S16x30, .i32⟩
  | 57 => ⟨S16x30, .i1⟩
  | 58 => ⟨S16x30, .i1⟩
  | 59 => ⟨S_, .i32⟩
  | 60 => ⟨S16x30, .i32⟩
  | 61 => ⟨S16x30, .i32⟩
  | 62 => ⟨S16x30, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S16x30, .i32⟩
  | 70 => ⟨S16x30, .i32⟩
  | 71 => ⟨S_, .i32⟩
  | 72 => ⟨S16x30, .i32⟩
  | 73 => ⟨S16x30, .i1⟩
  | 74 => ⟨S_, .i32⟩
  | 75 => ⟨S16x30, .i32⟩
  | 76 => ⟨S16x30, .i1⟩
  | 77 => ⟨S_, .i32⟩
  | 78 => ⟨S_, .i1⟩
  | 79 => ⟨S16x30, .i1⟩
  | 80 => ⟨S16x30, .i1⟩
  | 81 => ⟨S16x30, .i1⟩
  | 82 => ⟨S16x30, .i32⟩
  | 83 => ⟨S16x30, .i32⟩
  | 84 => ⟨S16x30, .i32⟩
  | 85 => ⟨S16x30, .f32⟩
  | 86 => ⟨S_, .f32⟩
  | 87 => ⟨S16x30, .f32⟩
  | 88 => ⟨S16x30, .f32⟩
  | 89 => ⟨S16x30, .f32⟩
  | 90 => ⟨S_, .f32⟩
  | 91 => ⟨S16x30, .f32⟩
  | 92 => ⟨S16x30, .f32⟩
  | 93 => ⟨S16x30, .f32⟩
  | 94 => ⟨S_, .f32⟩
  | 95 => ⟨S16x30, .f32⟩
  | 96 => ⟨S16x30, .f32⟩
  | 97 => ⟨S16x30, .f32⟩
  | 98 => ⟨S_, .f32⟩
  | 99 => ⟨S16x30, .f32⟩
  | 100 => ⟨S16x30, .f32⟩
  | 101 => ⟨S16x30x1, .f32⟩
  | 102 => ⟨S16x30, .f32⟩
  | 103 => ⟨S_, .f32⟩
  | 104 => ⟨S16x30, .f32⟩
  | 105 => ⟨S16x30, .f32⟩
  | 106 => ⟨S_, .i32⟩
  | 107 => ⟨S16x30, .i32⟩
  | 108 => ⟨S16x30, .i1⟩
  | 109 => ⟨S_, .i32⟩
  | 110 => ⟨S16x30, .i32⟩
  | 111 => ⟨S16x30, .i32⟩
  | 112 => ⟨S16x30, .i32⟩
  | 113 => ⟨S_, .i32⟩
  | 114 => ⟨S16x30, .i32⟩
  | 115 => ⟨S16x30, .i32⟩
  | 116 => ⟨S16x30x1, .i32⟩
  | 117 => ⟨S16x30x1, .i32⟩
  | 118 => ⟨S16x30x2, .i32⟩
  | 119 => ⟨S16x30, .f32⟩
  | 120 => ⟨S16x30, .f32⟩
  | 121 => ⟨S_, .f32⟩
  | 122 => ⟨S16x30, .f32⟩
  | 123 => ⟨S16x30, .f32⟩
  | 124 => ⟨S16x30, .f32⟩
  | 125 => ⟨S16x30x1, .f32⟩
  | 126 => ⟨S16x30, .f32⟩
  | 127 => ⟨S_, .f32⟩
  | _ => ⟨S16x14x14x5x25, .f32⟩

abbrev hbmTy0_3 (i : Nat) : BufTy := match i % 128 with
  | 0 => ⟨S16x30, .f32⟩
  | 1 => ⟨S16x30, .f32⟩
  | 2 => ⟨S_, .i32⟩
  | 3 => ⟨S16x30, .i32⟩
  | 4 => ⟨S16x30, .i1⟩
  | 5 => ⟨S_, .i32⟩
  | 6 => ⟨S16x30, .i32⟩
  | 7 => ⟨S16x30, .i32⟩
  | 8 => ⟨S16x30, .i32⟩
  | 9 => ⟨S_, .i32⟩
  | 10 => ⟨S16x30, .i32⟩
  | 11 => ⟨S16x30, .i32⟩
  | 12 => ⟨S16x30x1, .i32⟩
  | 13 => ⟨S16x30x1, .i32⟩
  | 14 => ⟨S16x30x2, .i32⟩
  | 15 => ⟨S16x30, .f32⟩
  | 16 => ⟨S16x30, .f32⟩
  | 17 => ⟨S_, .f32⟩
  | 18 => ⟨S16x30, .f32⟩
  | 19 => ⟨S16x30, .f32⟩
  | 20 => ⟨S16x30, .f32⟩
  | 21 => ⟨S16x30x1, .f32⟩
  | 22 => ⟨S16x30x1, .f32⟩
  | 23 => ⟨S16x30x1, .f32⟩
  | 24 => ⟨S16x30x1, .f32⟩
  | 25 => ⟨S16x30x4, .f32⟩
  | 26 => ⟨S16, .i32⟩
  | 27 => ⟨S16x1, .i32⟩
  | 28 => ⟨S16x30, .i32⟩
  | 29 => ⟨S_, .i32⟩
  | 30 => ⟨S_, .i32⟩
  | 31 => ⟨S16x30, .i32⟩
  | 32 => ⟨S16x30, .i32⟩
  | 33 => ⟨S_, .f32⟩
  | 34 => ⟨S16x14x14x5x4, .f32⟩
  | 35 => ⟨S_, .i32⟩
  | 36 => ⟨S16x30, .i32⟩
  | 37 => ⟨S16x30, .i1⟩
  | 38 => ⟨S_, .i32⟩
  | 39 => ⟨S16x30, .i32⟩
  | 40 => ⟨S16x30, .i32⟩
  | 41 => ⟨S16x30, .i32⟩
  | 42 => ⟨S_, .i32⟩
  | 43 => ⟨S16x30, .i32⟩
  | 44 => ⟨S16x30, .i1⟩
  | 45 => ⟨S_, .i32⟩
  | 46 => ⟨S16x30, .i32⟩
  | 47 => ⟨S16x30, .i32⟩
  | 48 => ⟨S16x30, .i32⟩
  | 49 => ⟨S_, .i32⟩
  | 50 => ⟨S16x30, .i32⟩
  | 51 => ⟨S16x30, .i1⟩
  | 52 => ⟨S_, .i32⟩
  | 53 => ⟨S16x30, .i32⟩
  | 54 => ⟨S16x30, .i32⟩
  | 55 => ⟨S16x30, .i32⟩
  | 56 => ⟨S_, .i32⟩
  | 57 => ⟨S16x30, .i32⟩
  | 58 => ⟨S16x30, .i1⟩
  | 59 => ⟨S_, .i32⟩
  | 60 => ⟨S16x30, .i32⟩
  | 61 => ⟨S16x30, .i32⟩
  | 62 => ⟨S16x30, .i32⟩
  | 63 => ⟨S16x30x1, .i32⟩
  | 64 => ⟨S16x30x1, .i32⟩
  | 65 => ⟨S16x30x1, .i32⟩
  | 66 => ⟨S16x30x1, .i32⟩
  | 67 => ⟨S16x30x4, .i32⟩
  | 68 => ⟨S16x14x14x5x4, .f32⟩
  | 69 => ⟨S_, .f32⟩
  | 70 => ⟨S16x14x14x5x4, .f32⟩
  | 71 => ⟨S_, .i32⟩
  | 72 => ⟨S16x30, .i32⟩
  | 73 => ⟨S16x30, .i1⟩
  | 74 => ⟨S_, .i32⟩
  | 75 => ⟨S16x30, .i32⟩
  | 76 => ⟨S16x30, .i32⟩
  | 77 => ⟨S16x30, .i32⟩
  | 78 => ⟨S_, .i32⟩
  | 79 => ⟨S16x30, .i32⟩
  | 80 => ⟨S16x30, .i1⟩
  | 81 => ⟨S_, .i32⟩
  | 82 => ⟨S16x30, .i32⟩
  | 83 => ⟨S16x30, .i32⟩
  | 84 => ⟨S16x30, .i32⟩
  | 85 => ⟨S_, .i32⟩
  | 86 => ⟨S16x30, .i32⟩
  | 87 => ⟨S16x30, .i1⟩
  | 88 => ⟨S_, .i32⟩
  | 89 => ⟨S16x30, .i32⟩
  | 90 => ⟨S16x30, .i32⟩
  | 91 => ⟨S16x30, .i32⟩
  | 92 => ⟨S_, .i32⟩
  | 93 => ⟨S16x30, .i32⟩
  | 94 => ⟨S16x30, .i1⟩
  | 95 => ⟨S_, .i32⟩
  | 96 => ⟨S16x30, .i32⟩
  | 97 => ⟨S16x30, .i32⟩
  | 98 => ⟨S16x30, .i32⟩
  | 99 => ⟨S16x30x1, .i32⟩
  | 100 => ⟨S16x30x1, .i32⟩
  | 101 => ⟨S16x30x1, .i32⟩
  | 102 => ⟨S16x30x1, .i32⟩
  | 103 => ⟨S16x30x4, .i32⟩
  | 104 => ⟨S_, .f32⟩
  | 105 => ⟨S16x30x4, .f32⟩
  | 106 => ⟨S16x14x14x5x4, .f32⟩
  | 107 => ⟨S16x14x14x5x4, .f32⟩
  | 108 => ⟨S16x14x14x5x4, .f32⟩
  | 109 => ⟨S16x14x14x5x4, .f32⟩
  | 110 => ⟨S16x14x14x5x4, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S16x14x14x5, .f32⟩
  | 118 => ⟨S16x14x14x5, .f32⟩
  | 119 => ⟨S16x14x14x5, .f32⟩
  | 120 => ⟨S16x14x14x5, .f32⟩
  | 121 => ⟨S_, .f32⟩
  | 122 => ⟨S_, .f32⟩
  | 123 => ⟨S16x14x14x5, .f32⟩
  | 124 => ⟨S16x14x14x5, .f32⟩
  | 125 => ⟨S_, .f32⟩
  | 126 => ⟨S_, .f32⟩
  | 127 => ⟨S_, .f32⟩
  | _ => ⟨S16x14x14x5x25, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S16x14x14x5, .f32⟩
  | 6 => ⟨S_, .f32⟩
  | 7 => ⟨S16x14x14x5, .f32⟩
  | 8 => ⟨S16x14x14x5, .f32⟩
  | 9 => ⟨S16x14x14x5x1, .f32⟩
  | 10 => ⟨S16x14x14x5x20, .f32⟩
  | 11 => ⟨S16x14x14x5x20, .f32⟩
  | 12 => ⟨S16x14x14x5x20, .f32⟩
  | 13 => ⟨S_, .f32⟩
  | 14 => ⟨S16x14x14x5, .f32⟩
  | 15 => ⟨S16x14x14x5x1, .f32⟩
  | 16 => ⟨S16x14x14x5x1, .f32⟩
  | 17 => ⟨S16x14x14x5x20, .f32⟩
  | 18 => ⟨S16x14x14x5x20, .f32⟩
  | 19 => ⟨S16x14x14x5x1, .f32⟩
  | 20 => ⟨S16x14x14x5, .f32⟩
  | 21 => ⟨S16x14x14x5, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | _ => ⟨S16x14x14x5x25, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x14x14x5x25, .f32⟩

abbrev bufTy : (tb : Table) → Fin (tcTables nBuf tb) → BufTy
  | .hbm, ⟨i, _⟩ => hbmTy i
  | _, _ => ⟨S16x14x14x5x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_9 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_10 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_11 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_12 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_13 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_cst_14 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_15 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_16 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_cst_17 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_18 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_cst_19 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_cst_20 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_cst_21 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_cst_22 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_cst_23 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_cst_24 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_cst_25 : Ref sig .tc := ⟨.hbm, 224, rfl⟩
abbrev main_v196 : Ref sig .tc := ⟨.hbm, 225, rfl⟩
abbrev main_v197 : Ref sig .tc := ⟨.hbm, 226, rfl⟩
abbrev main_c : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_cst_26 : Ref sig .tc := ⟨.hbm, 231, rfl⟩
abbrev main_v201 : Ref sig .tc := ⟨.hbm, 232, rfl⟩
abbrev main_v202 : Ref sig .tc := ⟨.hbm, 233, rfl⟩
abbrev main_call0_v0 : Ref sig .tc := ⟨.hbm, 234, rfl⟩
abbrev main_call0_cst : Ref sig .tc := ⟨.hbm, 235, rfl⟩
abbrev main_call0_c : Ref sig .tc := ⟨.hbm, 236, rfl⟩
abbrev main_call0_v1_0 : Ref sig .tc := ⟨.hbm, 237, rfl⟩
abbrev main_v203 : Ref sig .tc := ⟨.hbm, 238, rfl⟩
abbrev main_c_27 : Ref sig .tc := ⟨.hbm, 239, rfl⟩
abbrev main_call1_v0 : Ref sig .tc := ⟨.hbm, 240, rfl⟩
abbrev main_call1_c : Ref sig .tc := ⟨.hbm, 241, rfl⟩
abbrev main_call1_v1 : Ref sig .tc := ⟨.hbm, 242, rfl⟩
abbrev main_call1_c_0 : Ref sig .tc := ⟨.hbm, 243, rfl⟩
abbrev main_call1_v2 : Ref sig .tc := ⟨.hbm, 244, rfl⟩
abbrev main_call1_v3 : Ref sig .tc := ⟨.hbm, 245, rfl⟩
abbrev main_call1_v4 : Ref sig .tc := ⟨.hbm, 246, rfl⟩
abbrev main_call1_c_1 : Ref sig .tc := ⟨.hbm, 247, rfl⟩
abbrev main_call1_v5 : Ref sig .tc := ⟨.hbm, 248, rfl⟩
abbrev main_call1_v6 : Ref sig .tc := ⟨.hbm, 249, rfl⟩
abbrev main_call1_c_2 : Ref sig .tc := ⟨.hbm, 250, rfl⟩
abbrev main_call1_v7 : Ref sig .tc := ⟨.hbm, 251, rfl⟩
abbrev main_call1_v8 : Ref sig .tc := ⟨.hbm, 252, rfl⟩
abbrev main_call1_c_3 : Ref sig .tc := ⟨.hbm, 253, rfl⟩
abbrev main_call1_v9 : Ref sig .tc := ⟨.hbm, 254, rfl⟩
abbrev main_call1_v10 : Ref sig .tc := ⟨.hbm, 255, rfl⟩
abbrev main_call1_v11 : Ref sig .tc := ⟨.hbm, 256, rfl⟩
abbrev main_call1_v12 : Ref sig .tc := ⟨.hbm, 257, rfl⟩
abbrev main_call1_v13 : Ref sig .tc := ⟨.hbm, 258, rfl⟩
abbrev main_call1_v14 : Ref sig .tc := ⟨.hbm, 259, rfl⟩
abbrev main_v204 : Ref sig .tc := ⟨.hbm, 260, rfl⟩
abbrev main_c_28 : Ref sig .tc := ⟨.hbm, 261, rfl⟩
abbrev main_call2_v0 : Ref sig .tc := ⟨.hbm, 262, rfl⟩
abbrev main_call2_v1 : Ref sig .tc := ⟨.hbm, 263, rfl⟩
abbrev main_call2_v2 : Ref sig .tc := ⟨.hbm, 264, rfl⟩
abbrev main_call2_v3 : Ref sig .tc := ⟨.hbm, 265, rfl⟩
abbrev main_call2_v4 : Ref sig .tc := ⟨.hbm, 266, rfl⟩
abbrev main_call2_v5 : Ref sig .tc := ⟨.hbm, 267, rfl⟩
abbrev main_call2_v6 : Ref sig .tc := ⟨.hbm, 268, rfl⟩
abbrev main_call2_v7 : Ref sig .tc := ⟨.hbm, 269, rfl⟩
abbrev main_call2_v8 : Ref sig .tc := ⟨.hbm, 270, rfl⟩
abbrev main_call2_c : Ref sig .tc := ⟨.hbm, 271, rfl⟩
abbrev main_call2_v9 : Ref sig .tc := ⟨.hbm, 272, rfl⟩
abbrev main_call2_v10 : Ref sig .tc := ⟨.hbm, 273, rfl⟩
abbrev main_call2_v11 : Ref sig .tc := ⟨.hbm, 274, rfl⟩
abbrev main_call2_c_0 : Ref sig .tc := ⟨.hbm, 275, rfl⟩
abbrev main_call2_v12 : Ref sig .tc := ⟨.hbm, 276, rfl⟩
abbrev main_call2_v13 : Ref sig .tc := ⟨.hbm, 277, rfl⟩
abbrev main_v205 : Ref sig .tc := ⟨.hbm, 278, rfl⟩
abbrev main_c_29 : Ref sig .tc := ⟨.hbm, 279, rfl⟩
abbrev main_call3_v0 : Ref sig .tc := ⟨.hbm, 280, rfl⟩
abbrev main_call3_c : Ref sig .tc := ⟨.hbm, 281, rfl⟩
abbrev main_call3_v1 : Ref sig .tc := ⟨.hbm, 282, rfl⟩
abbrev main_call3_c_0 : Ref sig .tc := ⟨.hbm, 283, rfl⟩
abbrev main_call3_v2 : Ref sig .tc := ⟨.hbm, 284, rfl⟩
abbrev main_call3_v3 : Ref sig .tc := ⟨.hbm, 285, rfl⟩
abbrev main_call3_v4 : Ref sig .tc := ⟨.hbm, 286, rfl⟩
abbrev main_call3_c_1 : Ref sig .tc := ⟨.hbm, 287, rfl⟩
abbrev main_call3_v5 : Ref sig .tc := ⟨.hbm, 288, rfl⟩
abbrev main_call3_v6 : Ref sig .tc := ⟨.hbm, 289, rfl⟩
abbrev main_call3_c_2 : Ref sig .tc := ⟨.hbm, 290, rfl⟩
abbrev main_call3_v7 : Ref sig .tc := ⟨.hbm, 291, rfl⟩
abbrev main_call3_v8 : Ref sig .tc := ⟨.hbm, 292, rfl⟩
abbrev main_call3_c_3 : Ref sig .tc := ⟨.hbm, 293, rfl⟩
abbrev main_call3_v9 : Ref sig .tc := ⟨.hbm, 294, rfl⟩
abbrev main_call3_v10 : Ref sig .tc := ⟨.hbm, 295, rfl⟩
abbrev main_call3_v11 : Ref sig .tc := ⟨.hbm, 296, rfl⟩
abbrev main_call3_v12 : Ref sig .tc := ⟨.hbm, 297, rfl⟩
abbrev main_call3_v13 : Ref sig .tc := ⟨.hbm, 298, rfl⟩
abbrev main_call3_v14 : Ref sig .tc := ⟨.hbm, 299, rfl⟩
abbrev main_v206 : Ref sig .tc := ⟨.hbm, 300, rfl⟩
abbrev main_c_30 : Ref sig .tc := ⟨.hbm, 301, rfl⟩
abbrev main_call4_v0 : Ref sig .tc := ⟨.hbm, 302, rfl⟩
abbrev main_call4_v1 : Ref sig .tc := ⟨.hbm, 303, rfl⟩
abbrev main_call4_v2 : Ref sig .tc := ⟨.hbm, 304, rfl⟩
abbrev main_call4_v3 : Ref sig .tc := ⟨.hbm, 305, rfl⟩
abbrev main_call4_v4 : Ref sig .tc := ⟨.hbm, 306, rfl⟩
abbrev main_call4_v5 : Ref sig .tc := ⟨.hbm, 307, rfl⟩
abbrev main_call4_v6 : Ref sig .tc := ⟨.hbm, 308, rfl⟩
abbrev main_call4_v7 : Ref sig .tc := ⟨.hbm, 309, rfl⟩
abbrev main_call4_v8 : Ref sig .tc := ⟨.hbm, 310, rfl⟩
abbrev main_call4_c : Ref sig .tc := ⟨.hbm, 311, rfl⟩
abbrev main_call4_v9 : Ref sig .tc := ⟨.hbm, 312, rfl⟩
abbrev main_call4_v10 : Ref sig .tc := ⟨.hbm, 313, rfl⟩
abbrev main_call4_v11 : Ref sig .tc := ⟨.hbm, 314, rfl⟩
abbrev main_call4_c_0 : Ref sig .tc := ⟨.hbm, 315, rfl⟩
abbrev main_call4_v12 : Ref sig .tc := ⟨.hbm, 316, rfl⟩
abbrev main_call4_v13 : Ref sig .tc := ⟨.hbm, 317, rfl⟩
abbrev main_v207 : Ref sig .tc := ⟨.hbm, 318, rfl⟩
abbrev main_c_31 : Ref sig .tc := ⟨.hbm, 319, rfl⟩
abbrev main_call5_v0 : Ref sig .tc := ⟨.hbm, 320, rfl⟩
abbrev main_call5_c : Ref sig .tc := ⟨.hbm, 321, rfl⟩
abbrev main_call5_v1 : Ref sig .tc := ⟨.hbm, 322, rfl⟩
abbrev main_call5_c_0 : Ref sig .tc := ⟨.hbm, 323, rfl⟩
abbrev main_call5_v2 : Ref sig .tc := ⟨.hbm, 324, rfl⟩
abbrev main_call5_v3 : Ref sig .tc := ⟨.hbm, 325, rfl⟩
abbrev main_call5_v4 : Ref sig .tc := ⟨.hbm, 326, rfl⟩
abbrev main_call5_c_1 : Ref sig .tc := ⟨.hbm, 327, rfl⟩
abbrev main_call5_v5 : Ref sig .tc := ⟨.hbm, 328, rfl⟩
abbrev main_call5_v6 : Ref sig .tc := ⟨.hbm, 329, rfl⟩
abbrev main_call5_c_2 : Ref sig .tc := ⟨.hbm, 330, rfl⟩
abbrev main_call5_v7 : Ref sig .tc := ⟨.hbm, 331, rfl⟩
abbrev main_call5_v8 : Ref sig .tc := ⟨.hbm, 332, rfl⟩
abbrev main_call5_c_3 : Ref sig .tc := ⟨.hbm, 333, rfl⟩
abbrev main_call5_v9 : Ref sig .tc := ⟨.hbm, 334, rfl⟩
abbrev main_call5_v10 : Ref sig .tc := ⟨.hbm, 335, rfl⟩
abbrev main_call5_v11 : Ref sig .tc := ⟨.hbm, 336, rfl⟩
abbrev main_call5_v12 : Ref sig .tc := ⟨.hbm, 337, rfl⟩
abbrev main_call5_v13 : Ref sig .tc := ⟨.hbm, 338, rfl⟩
abbrev main_call5_v14 : Ref sig .tc := ⟨.hbm, 339, rfl⟩
abbrev main_v208 : Ref sig .tc := ⟨.hbm, 340, rfl⟩
abbrev main_v209 : Ref sig .tc := ⟨.hbm, 341, rfl⟩
abbrev main_cst_32 : Ref sig .tc := ⟨.hbm, 342, rfl⟩
abbrev main_v210 : Ref sig .tc := ⟨.hbm, 343, rfl⟩
abbrev main_v211 : Ref sig .tc := ⟨.hbm, 344, rfl⟩
abbrev main_v212 : Ref sig .tc := ⟨.hbm, 345, rfl⟩
abbrev main_cst_33 : Ref sig .tc := ⟨.hbm, 346, rfl⟩
abbrev main_v213 : Ref sig .tc := ⟨.hbm, 347, rfl⟩
abbrev main_v214 : Ref sig .tc := ⟨.hbm, 348, rfl⟩
abbrev main_v215 : Ref sig .tc := ⟨.hbm, 349, rfl⟩
abbrev main_cst_34 : Ref sig .tc := ⟨.hbm, 350, rfl⟩
abbrev main_v216 : Ref sig .tc := ⟨.hbm, 351, rfl⟩
abbrev main_v217 : Ref sig .tc := ⟨.hbm, 352, rfl⟩
abbrev main_v218 : Ref sig .tc := ⟨.hbm, 353, rfl⟩
abbrev main_cst_35 : Ref sig .tc := ⟨.hbm, 354, rfl⟩
abbrev main_v219 : Ref sig .tc := ⟨.hbm, 355, rfl⟩
abbrev main_v220 : Ref sig .tc := ⟨.hbm, 356, rfl⟩
abbrev main_v221 : Ref sig .tc := ⟨.hbm, 357, rfl⟩
abbrev main_v222 : Ref sig .tc := ⟨.hbm, 358, rfl⟩
abbrev main_cst_36 : Ref sig .tc := ⟨.hbm, 359, rfl⟩
abbrev main_v223 : Ref sig .tc := ⟨.hbm, 360, rfl⟩
abbrev main_v224 : Ref sig .tc := ⟨.hbm, 361, rfl⟩
abbrev main_c_37 : Ref sig .tc := ⟨.hbm, 362, rfl⟩
abbrev main_v225 : Ref sig .tc := ⟨.hbm, 363, rfl⟩
abbrev main_v226 : Ref sig .tc := ⟨.hbm, 364, rfl⟩
abbrev main_c_38 : Ref sig .tc := ⟨.hbm, 365, rfl⟩
abbrev main_v227 : Ref sig .tc := ⟨.hbm, 366, rfl⟩
abbrev main_v228 : Ref sig .tc := ⟨.hbm, 367, rfl⟩
abbrev main_v229 : Ref sig .tc := ⟨.hbm, 368, rfl⟩
abbrev main_c_39 : Ref sig .tc := ⟨.hbm, 369, rfl⟩
abbrev main_v230 : Ref sig .tc := ⟨.hbm, 370, rfl⟩
abbrev main_v231 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_v235 : Ref sig .tc := ⟨.hbm, 375, rfl⟩
abbrev main_v236 : Ref sig .tc := ⟨.hbm, 376, rfl⟩
abbrev main_cst_40 : Ref sig .tc := ⟨.hbm, 377, rfl⟩
abbrev main_v237 : Ref sig .tc := ⟨.hbm, 378, rfl⟩
abbrev main_v238 : Ref sig .tc := ⟨.hbm, 379, rfl⟩
abbrev main_v239 : Ref sig .tc := ⟨.hbm, 380, rfl⟩
abbrev main_v240 : Ref sig .tc := ⟨.hbm, 381, rfl⟩
abbrev main_v241 : Ref sig .tc := ⟨.hbm, 382, rfl⟩
abbrev main_cst_41 : Ref sig .tc := ⟨.hbm, 383, rfl⟩
abbrev main_v242 : Ref sig .tc := ⟨.hbm, 384, rfl⟩
abbrev main_v243 : Ref sig .tc := ⟨.hbm, 385, rfl⟩
abbrev main_c_42 : Ref sig .tc := ⟨.hbm, 386, rfl⟩
abbrev main_v244 : Ref sig .tc := ⟨.hbm, 387, rfl⟩
abbrev main_v245 : Ref sig .tc := ⟨.hbm, 388, rfl⟩
abbrev main_c_43 : Ref sig .tc := ⟨.hbm, 389, rfl⟩
abbrev main_v246 : Ref sig .tc := ⟨.hbm, 390, rfl⟩
abbrev main_v247 : Ref sig .tc := ⟨.hbm, 391, rfl⟩
abbrev main_v248 : Ref sig .tc := ⟨.hbm, 392, rfl⟩
abbrev main_c_44 : Ref sig .tc := ⟨.hbm, 393, rfl⟩
abbrev main_v249 : Ref sig .tc := ⟨.hbm, 394, rfl⟩
abbrev main_v250 : Ref sig .tc := ⟨.hbm, 395, rfl⟩
abbrev main_v251 : Ref sig .tc := ⟨.hbm, 396, rfl⟩
abbrev main_v252 : Ref sig .tc := ⟨.hbm, 397, rfl⟩
abbrev main_v253 : Ref sig .tc := ⟨.hbm, 398, rfl⟩
abbrev main_v254 : Ref sig .tc := ⟨.hbm, 399, rfl⟩
abbrev main_v255 : Ref sig .tc := ⟨.hbm, 400, rfl⟩
abbrev main_cst_45 : Ref sig .tc := ⟨.hbm, 401, rfl⟩
abbrev main_v256 : Ref sig .tc := ⟨.hbm, 402, rfl⟩
abbrev main_v257 : Ref sig .tc := ⟨.hbm, 403, rfl⟩
abbrev main_v258 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_v262 : Ref sig .tc := ⟨.hbm, 408, rfl⟩
abbrev main_v263 : Ref sig .tc := ⟨.hbm, 409, rfl⟩
abbrev main_v264 : Ref sig .tc := ⟨.hbm, 410, rfl⟩
abbrev main_v265 : Ref sig .tc := ⟨.hbm, 411, rfl⟩
abbrev main_v266 : Ref sig .tc := ⟨.hbm, 412, rfl⟩
abbrev main_c_46 : Ref sig .tc := ⟨.hbm, 413, rfl⟩
abbrev main_call6_v0 : Ref sig .tc := ⟨.hbm, 414, rfl⟩
abbrev main_call6_v1 : Ref sig .tc := ⟨.hbm, 415, rfl⟩
abbrev main_v267 : Ref sig .tc := ⟨.hbm, 416, rfl⟩
abbrev main_cst_47 : Ref sig .tc := ⟨.hbm, 417, rfl⟩
abbrev main_v268 : Ref sig .tc := ⟨.hbm, 418, rfl⟩
abbrev main_c_48 : Ref sig .tc := ⟨.hbm, 419, rfl⟩
abbrev main_v269 : Ref sig .tc := ⟨.hbm, 420, rfl⟩
abbrev main_v270 : Ref sig .tc := ⟨.hbm, 421, rfl⟩
abbrev main_c_49 : Ref sig .tc := ⟨.hbm, 422, rfl⟩
abbrev main_v271 : Ref sig .tc := ⟨.hbm, 423, rfl⟩
abbrev main_v272 : Ref sig .tc := ⟨.hbm, 424, rfl⟩
abbrev main_v273 : Ref sig .tc := ⟨.hbm, 425, rfl⟩
abbrev main_c_50 : Ref sig .tc := ⟨.hbm, 426, rfl⟩
abbrev main_v274 : Ref sig .tc := ⟨.hbm, 427, rfl⟩
abbrev main_v275 : Ref sig .tc := ⟨.hbm, 428, rfl⟩
abbrev main_c_51 : Ref sig .tc := ⟨.hbm, 429, rfl⟩
abbrev main_v276 : Ref sig .tc := ⟨.hbm, 430, rfl⟩
abbrev main_v277 : Ref sig .tc := ⟨.hbm, 431, rfl⟩
abbrev main_v278 : Ref sig .tc := ⟨.hbm, 432, rfl⟩
abbrev main_c_52 : Ref sig .tc := ⟨.hbm, 433, rfl⟩
abbrev main_v279 : Ref sig .tc := ⟨.hbm, 434, rfl⟩
abbrev main_v280 : Ref sig .tc := ⟨.hbm, 435, rfl⟩
abbrev main_c_53 : Ref sig .tc := ⟨.hbm, 436, rfl⟩
abbrev main_v281 : Ref sig .tc := ⟨.hbm, 437, rfl⟩
abbrev main_v282 : Ref sig .tc := ⟨.hbm, 438, rfl⟩
abbrev main_v283 : Ref sig .tc := ⟨.hbm, 439, rfl⟩
abbrev main_c_54 : Ref sig .tc := ⟨.hbm, 440, rfl⟩
abbrev main_v284 : Ref sig .tc := ⟨.hbm, 441, rfl⟩
abbrev main_v285 : Ref sig .tc := ⟨.hbm, 442, rfl⟩
abbrev main_c_55 : Ref sig .tc := ⟨.hbm, 443, rfl⟩
abbrev main_v286 : Ref sig .tc := ⟨.hbm, 444, rfl⟩
abbrev main_v287 : Ref sig .tc := ⟨.hbm, 445, rfl⟩
abbrev main_v288 : Ref sig .tc := ⟨.hbm, 446, rfl⟩
abbrev main_v289 : Ref sig .tc := ⟨.hbm, 447, rfl⟩
abbrev main_v290 : Ref sig .tc := ⟨.hbm, 448, rfl⟩
abbrev main_v291 : Ref sig .tc := ⟨.hbm, 449, rfl⟩
abbrev main_v292 : Ref sig .tc := ⟨.hbm, 450, rfl⟩
abbrev main_v293 : Ref sig .tc := ⟨.hbm, 451, rfl⟩
abbrev main_v294 : Ref sig .tc := ⟨.hbm, 452, rfl⟩
abbrev main_cst_56 : Ref sig .tc := ⟨.hbm, 453, rfl⟩
abbrev main_v295 : Ref sig .tc := ⟨.hbm, 454, rfl⟩
abbrev main_c_57 : Ref sig .tc := ⟨.hbm, 455, rfl⟩
abbrev main_v296 : Ref sig .tc := ⟨.hbm, 456, rfl⟩
abbrev main_v297 : Ref sig .tc := ⟨.hbm, 457, rfl⟩
abbrev main_c_58 : Ref sig .tc := ⟨.hbm, 458, rfl⟩
abbrev main_v298 : Ref sig .tc := ⟨.hbm, 459, rfl⟩
abbrev main_v299 : Ref sig .tc := ⟨.hbm, 460, rfl⟩
abbrev main_v300 : Ref sig .tc := ⟨.hbm, 461, rfl⟩
abbrev main_c_59 : Ref sig .tc := ⟨.hbm, 462, rfl⟩
abbrev main_v301 : Ref sig .tc := ⟨.hbm, 463, rfl⟩
abbrev main_v302 : Ref sig .tc := ⟨.hbm, 464, rfl⟩
abbrev main_c_60 : Ref sig .tc := ⟨.hbm, 465, rfl⟩
abbrev main_v303 : Ref sig .tc := ⟨.hbm, 466, rfl⟩
abbrev main_v304 : Ref sig .tc := ⟨.hbm, 467, rfl⟩
abbrev main_v305 : Ref sig .tc := ⟨.hbm, 468, rfl⟩
abbrev main_c_61 : Ref sig .tc := ⟨.hbm, 469, rfl⟩
abbrev main_v306 : Ref sig .tc := ⟨.hbm, 470, rfl⟩
abbrev main_v307 : Ref sig .tc := ⟨.hbm, 471, rfl⟩
abbrev main_c_62 : Ref sig .tc := ⟨.hbm, 472, rfl⟩
abbrev main_v308 : Ref sig .tc := ⟨.hbm, 473, rfl⟩
abbrev main_v309 : Ref sig .tc := ⟨.hbm, 474, rfl⟩
abbrev main_v310 : Ref sig .tc := ⟨.hbm, 475, rfl⟩
abbrev main_c_63 : Ref sig .tc := ⟨.hbm, 476, rfl⟩
abbrev main_v311 : Ref sig .tc := ⟨.hbm, 477, rfl⟩
abbrev main_v312 : Ref sig .tc := ⟨.hbm, 478, rfl⟩
abbrev main_c_64 : Ref sig .tc := ⟨.hbm, 479, rfl⟩
abbrev main_v313 : Ref sig .tc := ⟨.hbm, 480, rfl⟩
abbrev main_v314 : Ref sig .tc := ⟨.hbm, 481, rfl⟩
abbrev main_v315 : Ref sig .tc := ⟨.hbm, 482, rfl⟩
abbrev main_v316 : Ref sig .tc := ⟨.hbm, 483, rfl⟩
abbrev main_v317 : Ref sig .tc := ⟨.hbm, 484, rfl⟩
abbrev main_v318 : Ref sig .tc := ⟨.hbm, 485, rfl⟩
abbrev main_v319 : Ref sig .tc := ⟨.hbm, 486, rfl⟩
abbrev main_v320 : Ref sig .tc := ⟨.hbm, 487, rfl⟩
abbrev main_cst_65 : Ref sig .tc := ⟨.hbm, 488, rfl⟩
abbrev main_v321 : Ref sig .tc := ⟨.hbm, 489, rfl⟩
abbrev main_v322 : Ref sig .tc := ⟨.hbm, 490, rfl⟩
abbrev main_v323 : Ref sig .tc := ⟨.hbm, 491, rfl⟩
abbrev main_v324 : Ref sig .tc := ⟨.hbm, 492, rfl⟩
abbrev main_v325 : Ref sig .tc := ⟨.hbm, 493, rfl⟩
abbrev main_v326 : Ref sig .tc := ⟨.hbm, 494, rfl⟩
abbrev main_cst_66 : Ref sig .tc := ⟨.hbm, 495, rfl⟩
abbrev main_v327 : Ref sig .tc := ⟨.hbm, 496, rfl⟩
abbrev main_cst_67 : Ref sig .tc := ⟨.hbm, 497, rfl⟩
abbrev main_v328 : Ref sig .tc := ⟨.hbm, 498, rfl⟩
abbrev main_cst_68 : Ref sig .tc := ⟨.hbm, 499, rfl⟩
abbrev main_v329 : Ref sig .tc := ⟨.hbm, 500, rfl⟩
abbrev main_v330 : Ref sig .tc := ⟨.hbm, 501, rfl⟩
abbrev main_v331 : Ref sig .tc := ⟨.hbm, 502, rfl⟩
abbrev main_v332 : Ref sig .tc := ⟨.hbm, 503, rfl⟩
abbrev main_v333 : Ref sig .tc := ⟨.hbm, 504, rfl⟩
abbrev main_cst_69 : Ref sig .tc := ⟨.hbm, 505, rfl⟩
abbrev main_v334 : Ref sig .tc := ⟨.hbm, 506, rfl⟩
abbrev main_v335 : Ref sig .tc := ⟨.hbm, 507, rfl⟩
abbrev main_v336 : Ref sig .tc := ⟨.hbm, 508, rfl⟩
abbrev main_cst_70 : Ref sig .tc := ⟨.hbm, 509, rfl⟩
abbrev main_v337 : Ref sig .tc := ⟨.hbm, 510, rfl⟩
abbrev main_cst_71 : Ref sig .tc := ⟨.hbm, 511, rfl⟩
abbrev main_v338 : Ref sig .tc := ⟨.hbm, 512, rfl⟩
abbrev main_v339 : Ref sig .tc := ⟨.hbm, 513, rfl⟩
abbrev main_cst_72 : Ref sig .tc := ⟨.hbm, 514, rfl⟩
abbrev main_v340 : Ref sig .tc := ⟨.hbm, 515, rfl⟩
abbrev main_call7_cst : Ref sig .tc := ⟨.hbm, 516, rfl⟩
abbrev main_call7_v0 : Ref sig .tc := ⟨.hbm, 517, rfl⟩
abbrev main_call7_cst_0 : Ref sig .tc := ⟨.hbm, 518, rfl⟩
abbrev main_call7_v1 : Ref sig .tc := ⟨.hbm, 519, rfl⟩
abbrev main_call7_v2 : Ref sig .tc := ⟨.hbm, 520, rfl⟩
abbrev main_call7_v3 : Ref sig .tc := ⟨.hbm, 521, rfl⟩
abbrev main_call7_v4 : Ref sig .tc := ⟨.hbm, 522, rfl⟩
abbrev main_call7_v5 : Ref sig .tc := ⟨.hbm, 523, rfl⟩
abbrev main_call7_v6 : Ref sig .tc := ⟨.hbm, 524, rfl⟩
abbrev main_call7_cst_1 : Ref sig .tc := ⟨.hbm, 525, rfl⟩
abbrev main_call7_v7 : Ref sig .tc := ⟨.hbm, 526, rfl⟩
abbrev main_call7_v8 : Ref sig .tc := ⟨.hbm, 527, rfl⟩
abbrev main_call7_v9 : Ref sig .tc := ⟨.hbm, 528, rfl⟩
abbrev main_call7_v10 : Ref sig .tc := ⟨.hbm, 529, rfl⟩
abbrev main_v341 : Ref sig .tc := ⟨.hbm, 530, rfl⟩
abbrev main_v342 : Ref sig .tc := ⟨.hbm, 531, rfl⟩
abbrev main_v343 : Ref sig .tc := ⟨.hbm, 532, rfl⟩
abbrev main_v344 : Ref sig .tc := ⟨.hbm, 533, rfl⟩
abbrev main_cst_73 : Ref sig .tc := ⟨.hbm, 534, rfl⟩
abbrev main_v345 : Ref sig .tc := ⟨.hbm, 535, rfl⟩
abbrev main_cst_74 : Ref sig .tc := ⟨.hbm, 536, rfl⟩
abbrev main_v346 : Ref sig .tc := ⟨.hbm, 537, rfl⟩
abbrev main_cst_75 : Ref sig .tc := ⟨.hbm, 538, rfl⟩
abbrev main_v347 : Ref sig .tc := ⟨.hbm, 539, rfl⟩
abbrev main_v348 : Ref sig .tc := ⟨.hbm, 540, rfl⟩
abbrev main_v349 : Ref sig .tc := ⟨.hbm, 541, rfl⟩

abbrev nD : Nat := 1
abbrev τ : Topo := Topo.v7x

variable {F : FTy → Type} [FloatOps F]
-- ==== Proof.Lines.lean ====
/- Straight lines of host operations as data.

   A `Step` is one host operation by its operands, its result and its function. `Settled` says that a valuation of the buffers
   satisfies every step's defining equation, and `settled` that the contents after a line, in which every result is a buffer
   numbered above everything the line touched before, are settled: so the contents after the line may be read one equation at a
   time, whatever the line's length. -/
module

public import Idealize.ShloMosaic.Lib.StableHlo.RunHlo

@[expose] public section

noncomputable section

namespace Cert.Lines

open Idealize.ShloMosaic Idealize.ShloMosaic.StableHlo Idealize.ShloMosaic.TcCoe Idealize.SL.Sem

variable {nD : Nat} {τ : Topo} {sig : RefSig} {Val : EltTy → Type} {Λ : Labels}

/-- What an operation asks of a buffer: on the device, not scoped. -/
abbrev Ok (τ : Topo) {sig : RefSig} (x : Ref sig .tc) : Prop := x.space ≠ .host ∧ (x : DevRef τ sig).isScoped = false

/-- One host operation: its operands, its result, its function. -/
inductive Step (τ : Topo) (sig : RefSig) (Val : EltTy → Type) : Type
  | nullary (y : Ref sig .tc) (v : y.ty.Contents Val) (hy : Ok τ y)
  | unary (x y : Ref sig .tc) (f : x.ty.Contents Val → y.ty.Contents Val) (hx : Ok τ x) (hy : Ok τ y)
  | reshape (x y : Ref sig .tc) (he : x.ty.elt = y.ty.elt) (hn : x.ty.shape.ShapeCasts y.ty.shape) (hx : Ok τ x) (hy : Ok τ y)
  | binary (a b y : Ref sig .tc) (f : a.ty.Contents Val → b.ty.Contents Val → y.ty.Contents Val)
      (ha : Ok τ a) (hb : Ok τ b) (hy : Ok τ y)
  | ternary (c a b y : Ref sig .tc) (f : c.ty.Contents Val → a.ty.Contents Val → b.ty.Contents Val → y.ty.Contents Val)
      (hc : Ok τ c) (ha : Ok τ a) (hb : Ok τ b) (hy : Ok τ y)
  | quaternary (a b c e y : Ref sig .tc)
      (f : a.ty.Contents Val → b.ty.Contents Val → c.ty.Contents Val → e.ty.Contents Val → y.ty.Contents Val)
      (ha : Ok τ a) (hb : Ok τ b) (hc : Ok τ c) (he : Ok τ e) (hy : Ok τ y)
  | nary {n : Nat} (xs : Fin n → Ref sig .tc) (y : Ref sig .tc) (f : ((k : Fin n) → (xs k).ty.Contents Val) → y.ty.Contents Val)
      (hxs : ∀ k, Ok τ (xs k)) (hy : Ok τ y)

namespace Step

/-- The operation a step stands for. -/
def op : Step τ sig Val → HloOp τ sig Val
  | .nullary y v hy => StableHlo.nullary y v hy
  | .unary x y f hx hy => StableHlo.unary x y f hx hy
  | .reshape x y he hn hx hy => StableHlo.reshape x y he hn hx hy
  | .binary a b y f ha hb hy => StableHlo.binary a b y f ha hb hy
  | .ternary c a b y f hc ha hb hy => StableHlo.ternary c a b y f hc ha hb hy
  | .quaternary a b c e y f ha hb hc he hy => StableHlo.quaternary a b c e y f ha hb hc he hy
  | .nary xs y f hxs hy => StableHlo.nary xs y f hxs hy

/-- Its result's buffer. -/
def out : Step τ sig Val → Ref sig .tc
  | .nullary y _ _ => y
  | .unary _ y _ _ _ => y
  | .reshape _ y _ _ _ _ => y
  | .binary _ _ y _ _ _ _ => y
  | .ternary _ _ _ y _ _ _ _ _ => y
  | .quaternary _ _ _ _ y _ _ _ _ _ _ => y
  | .nary _ y _ _ _ => y

/-- Its operands' buffers. -/
def ins : Step τ sig Val → List (Ref sig .tc)
  | .nullary _ _ _ => []
  | .unary x _ _ _ _ => [x]
  | .reshape x _ _ _ _ _ => [x]
  | .binary a b _ _ _ _ _ => [a, b]
  | .ternary c a b _ _ _ _ _ _ => [c, a, b]
  | .quaternary a b c e _ _ _ _ _ _ _ => [a, b, c, e]
  | .nary xs _ _ _ _ => List.ofFn xs

/-- Its result as a function of the buffers' contents. -/
def val : (s : Step τ sig Val) → Valuation τ sig Val → s.out.ty.Contents Val
  | .nullary _ v _, _ => v
  | .unary x _ f _ _, V => f (V x)
  | .reshape x y he hn _ _, V => fun i => he ▸ shapeCast y.ty.shape (V x) hn i
  | .binary a b _ f _ _ _, V => f (V a) (V b)
  | .ternary c a b _ f _ _ _ _, V => f (V c) (V a) (V b)
  | .quaternary a b c e _ f _ _ _ _ _, V => f (V a) (V b) (V c) (V e)
  | .nary xs _ f _ _, V => f fun k => V (xs k)

/-- The step's defining equation. -/
def Eqn (E : Valuation τ sig Val) (s : Step τ sig Val) : Prop := E s.out = s.val E

theorem result_out (s : Step τ sig Val) (V : Valuation τ sig Val) : s.op.result V s.out = s.val V := by
  cases s with
  | nullary y v hy => exact nullary_result y v hy V
  | unary x y f hx hy => exact unary_result x y f hx hy V
  | reshape x y he hn hx hy => exact reshape_result x y he hn hx hy V
  | binary a b y f ha hb hy => exact binary_result a b y f ha hb hy V
  | ternary c a b y f hc ha hb hy => exact ternary_result c a b y f hc ha hb hy V
  | quaternary a b c e y f ha hb hc he hy => exact quaternary_result a b c e y f ha hb hc he hy V
  | nary xs y f hxs hy => exact nary_result xs y f hxs hy V

theorem writes_eq (s : Step τ sig Val) : s.op.writes = {(s.out : DevRef τ sig)} := by cases s <;> rfl

theorem fresh_eq (s : Step τ sig Val) : s.op.fresh = ∅ := by cases s <;> rfl

theorem result_ne (s : Step τ sig Val) (V : Valuation τ sig Val) {r : Ref sig .tc} (h : r ≠ s.out) :
    s.op.result V r = V r :=
  s.op.result_of_not_mem V (by rw [writes_eq, Finset.mem_singleton]; exact devRef_ne_of_ne h)

theorem bufs_sub (s : Step τ sig Val) : s.op.bufs ⊆ tcRefs τ sig := by
  cases s with
  | nullary y v hy => exact nullary_bufs_sub (hy := hy) ..
  | unary x y f hx hy => exact unary_bufs_sub x y f hx hy
  | reshape x y he hn hx hy => exact reshape_bufs_sub x y he hn hx hy
  | binary a b y f ha hb hy => exact binary_bufs_sub a b y f ha hb hy
  | ternary c a b y f hc ha hb hy => exact ternary_bufs_sub a b c y f hc ha hb hy
  | quaternary a b c e y f ha hb hc he hy => exact quaternary_bufs_sub a b c e y f ha hb hc he hy
  | nary xs y f hxs hy => exact nary_bufs_sub (xs := xs) (y := y) (f := f) (hxs := hxs) (hy := hy)

theorem val_congr (s : Step τ sig Val) {V W : Valuation τ sig Val} (h : ∀ x ∈ s.ins, V x = W x) : s.val V = s.val W := by
  cases s with
  | nullary y v hy => rfl
  | unary x y f hx hy => exact congrArg f (h x (by simp [ins]))
  | reshape x y he hn hx hy => simp only [val]; rw [h x (by simp [ins])]
  | binary a b y f ha hb hy => exact congrArg₂ f (h a (by simp [ins])) (h b (by simp [ins]))
  | ternary c a b y f hc ha hb hy =>
    simp only [val]; rw [h c (by simp [ins]), h a (by simp [ins]), h b (by simp [ins])]
  | quaternary a b c e y f ha hb hc he hy =>
    simp only [val]; rw [h a (by simp [ins]), h b (by simp [ins]), h c (by simp [ins]), h e (by simp [ins])]
  | nary xs y f hxs hy => exact congrArg f (funext fun k => h _ (by simp [ins]))

end Step

/-- Every step's result is numbered at or above `n` and above everything the line touched before it. -/
def rising : ℕ → List (Step τ sig Val) → Bool
  | _, [] => true
  | n, s :: ss => decide (n ≤ s.out.idx.val) && s.ins.all (fun x => decide (x.idx.val < s.out.idx.val)) && rising (s.out.idx.val + 1) ss

/-- After a rising line every step's defining equation holds, and what is numbered below the line is unchanged. -/
theorem settled (ss : List (Step τ sig Val)) : ∀ n : ℕ, rising n ss = true → ∀ V : Valuation τ sig Val,
    (∀ s ∈ ss, s.Eqn (after (ss.map Step.op) V)) ∧ ∀ r : Ref sig .tc, r.idx.val < n → after (ss.map Step.op) V r = V r := by
  induction ss with
  | nil => exact fun _ _ V => ⟨fun _ h => absurd h List.not_mem_nil, fun _ _ => rfl⟩
  | cons s ss ih =>
    intro n h V
    simp only [rising, Bool.and_eq_true, decide_eq_true_eq, List.all_eq_true] at h
    obtain ⟨⟨hn, hi⟩, hs⟩ := h
    obtain ⟨h1, h2⟩ := ih _ hs (s.op.result V)
    rw [List.map_cons, after_cons]
    have old : ∀ x : Ref sig .tc, x.idx.val < s.out.idx.val → after (ss.map Step.op) (s.op.result V) x = V x := fun x hx => by
      rw [h2 x (Nat.lt_succ_of_lt hx), s.result_ne]
      intro e; rw [e] at hx; exact lt_irrefl _ hx
    refine ⟨fun s' hs' => ?_, fun r hr => old r (lt_of_lt_of_le hr hn)⟩
    rcases List.mem_cons.mp hs' with e | hs'
    · subst e
      unfold Step.Eqn
      rw [Step.val_congr s' fun x hx => old x (hi x hx), h2 _ (Nat.lt_succ_self _), Step.result_out]
    · exact h1 s' hs'

/-- The defining equations of a list of steps, as one conjunction. -/
def Eqns (E : Valuation τ sig Val) : List (Step τ sig Val) → Prop
  | [] => True
  | s :: ss => s.Eqn E ∧ Eqns E ss

/-- The equations of `n` steps from the `i`-th on. -/
theorem Eqns.of_mem {E : Valuation τ sig Val} : ∀ {ss : List (Step τ sig Val)}, (∀ s ∈ ss, s.Eqn E) → Eqns E ss
  | [], _ => trivial
  | s :: _, h => ⟨h s List.mem_cons_self, of_mem fun t ht => h t (List.mem_cons_of_mem s ht)⟩

theorem Eqns.seg {E : Valuation τ sig Val} {ss : List (Step τ sig Val)} (h : ∀ s ∈ ss, s.Eqn E) (i n : ℕ) :
    Eqns E ((ss.drop i).take n) :=
  Eqns.of_mem fun s hs => h s (List.mem_of_mem_drop (List.mem_of_mem_take hs))

/-- `p` runs the steps `ss` in order and returns: read off the program's text, operation by operation. -/
inductive IsLine : Prog (TpuEff nD τ sig Val Λ .tc) PUnit → List (Step τ sig Val) → Prop
  | nil : IsLine (pure ⟨⟩) []
  | nullary {k : Prog (TpuEff nD τ sig Val Λ .tc) PUnit} {ss : List (Step τ sig Val)}
      {y : Ref sig .tc} {v : y.ty.Contents Val} {hy : Ok τ y} (h : IsLine k ss) :
      IsLine ((hlo rfl (StableHlo.nullary y v hy) fun _ => .ret (⟨⟩ : PUnit)) >>= fun _ => k) (.nullary y v hy :: ss)
  | unary {k : Prog (TpuEff nD τ sig Val Λ .tc) PUnit} {ss : List (Step τ sig Val)}
      {x y : Ref sig .tc} {f : x.ty.Contents Val → y.ty.Contents Val} {hx : Ok τ x} {hy : Ok τ y} (h : IsLine k ss) :
      IsLine ((hlo rfl (StableHlo.unary x y f hx hy) fun _ => .ret (⟨⟩ : PUnit)) >>= fun _ => k) (.unary x y f hx hy :: ss)
  | reshape {k : Prog (TpuEff nD τ sig Val Λ .tc) PUnit} {ss : List (Step τ sig Val)}
      {x y : Ref sig .tc} {he : x.ty.elt = y.ty.elt} {hn : x.ty.shape.ShapeCasts y.ty.shape} {hx : Ok τ x} {hy : Ok τ y} (h : IsLine k ss) :
      IsLine ((hlo rfl (StableHlo.reshape (Val := Val) x y he hn hx hy) fun _ => .ret (⟨⟩ : PUnit)) >>= fun _ => k) (.reshape x y he hn hx hy :: ss)
  | binary {k : Prog (TpuEff nD τ sig Val Λ .tc) PUnit} {ss : List (Step τ sig Val)}
      {a b y : Ref sig .tc} {f : a.ty.Contents Val → b.ty.Contents Val → y.ty.Contents Val}
      {ha : Ok τ a} {hb : Ok τ b} {hy : Ok τ y} (h : IsLine k ss) :
      IsLine ((hlo rfl (StableHlo.binary a b y f ha hb hy) fun _ => .ret (⟨⟩ : PUnit)) >>= fun _ => k) (.binary a b y f ha hb hy :: ss)
  | ternary {k : Prog (TpuEff nD τ sig Val Λ .tc) PUnit} {ss : List (Step τ sig Val)}
      {c a b y : Ref sig .tc} {f : c.ty.Contents Val → a.ty.Contents Val → b.ty.Contents Val → y.ty.Contents Val}
      {hc : Ok τ c} {ha : Ok τ a} {hb : Ok τ b} {hy : Ok τ y} (h : IsLine k ss) :
      IsLine ((hlo rfl (StableHlo.ternary c a b y f hc ha hb hy) fun _ => .ret (⟨⟩ : PUnit)) >>= fun _ => k) (.ternary c a b y f hc ha hb hy :: ss)
  | quaternary {k : Prog (TpuEff nD τ sig Val Λ .tc) PUnit} {ss : List (Step τ sig Val)}
      {a b c e y : Ref sig .tc}
      {f : a.ty.Contents Val → b.ty.Contents Val → c.ty.Contents Val → e.ty.Contents Val → y.ty.Contents Val}
      {ha : Ok τ a} {hb : Ok τ b} {hc : Ok τ c} {he : Ok τ e} {hy : Ok τ y} (h : IsLine k ss) :
      IsLine ((hlo rfl (StableHlo.quaternary a b c e y f ha hb hc he hy) fun _ => .ret (⟨⟩ : PUnit)) >>= fun _ => k) (.quaternary a b c e y f ha hb hc he hy :: ss)
  | nary {k : Prog (TpuEff nD τ sig Val Λ .tc) PUnit} {ss : List (Step τ sig Val)}
      {n : Nat} {xs : Fin n → Ref sig .tc} {y : Ref sig .tc}
      {f : ((k : Fin n) → (xs k).ty.Contents Val) → y.ty.Contents Val} {hxs : ∀ k, Ok τ (xs k)} {hy : Ok τ y} (h : IsLine k ss) :
      IsLine ((hlo rfl (StableHlo.nary xs y f hxs hy) fun _ => .ret (⟨⟩ : PUnit)) >>= fun _ => k) (.nary xs y f hxs hy :: ss)
  | last {op : HloOp τ sig Val} {ss : List (Step τ sig Val)} (h : IsLine ((hlo rfl op fun _ => .ret (⟨⟩ : PUnit)) >>= fun _ => pure ⟨⟩) ss) :
      IsLine (hlo rfl op fun _ => .ret (⟨⟩ : PUnit)) ss
  | append {p k : Prog (TpuEff nD τ sig Val Λ .tc) PUnit} {ss ts : List (Step τ sig Val)} (hp : IsLine p ss) (h : IsLine k ts) :
      IsLine (p >>= fun _ => k) (ss ++ ts)

/-- A line is the sequence of its steps' operations. -/
theorem IsLine.eq {p : Prog (TpuEff nD τ sig Val Λ .tc) PUnit} {ss : List (Step τ sig Val)} (h : IsLine p ss) :
    p = seq (ss.map Step.op) := by
  induction h with
  | nil => rfl
  | last _ ih => exact ih
  | append _ _ ih₁ ih₂ => rw [ih₁, ih₂, List.map_append, seq_append]
  | _ _ ih => rw [ih]; rfl

/-- A line's run: from any memory with zero counters every weakly fair execution ends, each TensorCore buffer at the contents after the line. -/
theorem run_line (defs : Defs nD τ sig Val Λ) (main : Dev nD → Prog (TpuEff nD τ sig Val Λ .tc) PUnit) (ss : List (Step τ sig Val))
    (hmain : ∀ d, IsLine (main d) ss)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r =>
      ∀ (d : Dev nD) (b : Ref sig .tc),
        r.2.mem ((d.tc : Thread nD τ).loc b) = after (ss.map Step.op) (launchContents m d) (Proc.devRef .tc b) :=
  run_seq hR hC defs main (fun _ => ss.map Step.op) (fun d => (hmain d).eq)
    (fun _ => List.forall_iff_forall_mem.mpr fun _ h => by
      obtain ⟨s, _, rfl⟩ := List.mem_map.mp h; exact s.bufs_sub) m ρ
    (fun _ _ h => by obtain ⟨s, _, rfl⟩ := List.mem_map.mp h; exact s.fresh_eq)

end Cert.Lines

end
-- ==== Proof.RefLine.lean ====
/- The reference program as a line of host operations. -/
module

public import proofs.«01_k».proof.ReferenceIdeal
public import proofs.«01_k».proof.Proof.Gen.ReferenceIdeal
public import proofs.«01_k».proof.Proof.Lines

@[expose] public section

set_option maxRecDepth 16384

noncomputable section

namespace Cert.ReferenceIdeal.Line

open Idealize.ShloMosaic Idealize.ShloMosaic.StableHlo Idealize.ShloMosaic.TcCoe Idealize.SL.Sem Cert.Lines

variable {F : FTy → Type} [FloatOps F] [Cert.ReferenceIdeal.Facts]

/-- The reference's @main, 60 statements to a part, each part with the list of its operations. -/
def part0 : {ss : List (Step τ sig (Elt F)) // ∀ d, IsLine (main_part0 (F := F) d) ss} := by
  apply Subtype.mk; intro d; unfold main_part0
  repeat' first | with_reducible constructor | unfold fn_argmax.body | unfold fn_remainder.body | unfold fn_where.body | unfold fn_floor_divide.body | unfold fn_where_0.body | unfold fn_where_1.body | unfold fn_log_softmax.body
def part1 : {ss : List (Step τ sig (Elt F)) // ∀ d, IsLine (main_part1 (F := F) d) ss} := by
  apply Subtype.mk; intro d; unfold main_part1
  repeat' first | with_reducible constructor | unfold fn_argmax.body | unfold fn_remainder.body | unfold fn_where.body | unfold fn_floor_divide.body | unfold fn_where_0.body | unfold fn_where_1.body | unfold fn_log_softmax.body
def part2 : {ss : List (Step τ sig (Elt F)) // ∀ d, IsLine (main_part2 (F := F) d) ss} := by
  apply Subtype.mk; intro d; unfold main_part2
  repeat' first | with_reducible constructor | unfold fn_argmax.body | unfold fn_remainder.body | unfold fn_where.body | unfold fn_floor_divide.body | unfold fn_where_0.body | unfold fn_where_1.body | unfold fn_log_softmax.body
def part3 : {ss : List (Step τ sig (Elt F)) // ∀ d, IsLine (main_part3 (F := F) d) ss} := by
  apply Subtype.mk; intro d; unfold main_part3
  repeat' first | with_reducible constructor | unfold fn_argmax.body | unfold fn_remainder.body | unfold fn_where.body | unfold fn_floor_divide.body | unfold fn_where_0.body | unfold fn_where_1.body | unfold fn_log_softmax.body
def part4 : {ss : List (Step τ sig (Elt F)) // ∀ d, IsLine (main_part4 (F := F) d) ss} := by
  apply Subtype.mk; intro d; unfold main_part4
  repeat' first | with_reducible constructor | unfold fn_argmax.body | unfold fn_remainder.body | unfold fn_where.body | unfold fn_floor_divide.body | unfold fn_where_0.body | unfold fn_where_1.body | unfold fn_log_softmax.body
def part5 : {ss : List (Step τ sig (Elt F)) // ∀ d, IsLine (main_part5 (F := F) d) ss} := by
  apply Subtype.mk; intro d; unfold main_part5
  repeat' first | with_reducible constructor | unfold fn_argmax.body | unfold fn_remainder.body | unfold fn_where.body | unfold fn_floor_divide.body | unfold fn_where_0.body | unfold fn_where_1.body | unfold fn_log_softmax.body
def part6 : {ss : List (Step τ sig (Elt F)) // ∀ d, IsLine (main_part6 (F := F) d) ss} := by
  apply Subtype.mk; intro d; unfold main_part6
  repeat' first | with_reducible constructor | unfold fn_argmax.body | unfold fn_remainder.body | unfold fn_where.body | unfold fn_floor_divide.body | unfold fn_where_0.body | unfold fn_where_1.body | unfold fn_log_softmax.body
def part7 : {ss : List (Step τ sig (Elt F)) // ∀ d, IsLine (main_part7 (F := F) d) ss} := by
  apply Subtype.mk; intro d; unfold main_part7
  repeat' first | with_reducible constructor | unfold fn_argmax.body | unfold fn_remainder.body | unfold fn_where.body | unfold fn_floor_divide.body | unfold fn_where_0.body | unfold fn_where_1.body | unfold fn_log_softmax.body

/-- All of @main's operations, in order. -/
def steps : List (Step τ sig (Elt F)) :=
  part0.1 ++ (part1.1 ++ (part2.1 ++ (part3.1 ++ (part4.1 ++ (part5.1 ++ (part6.1 ++ part7.1))))))

theorem main_line (d : Dev nD) : IsLine (main (F := F) d) steps :=
  .append (part0.2 d) (.append (part1.2 d) (.append (part2.2 d) (.append (part3.2 d) (.append (part4.2 d)
    (.append (part5.2 d) (.append (part6.2 d) (part7.2 d)))))))

theorem steps_rising : rising 2 (steps (F := F)) = true := by rfl

/-- The buffers' contents after the reference ran from the memory `m`. -/
def fin (m : (ℓ : Loc nD τ sig) → Buf (Elt F) ℓ) (c : Dev nD) : Valuation τ sig (Elt F) :=
  after (steps.map Step.op) (launchContents m c)

variable (m : (ℓ : Loc nD τ sig) → Buf (Elt F) ℓ) (c : Dev nD)

/-- Every operation's defining equation holds of the contents at the end. -/
theorem fin_eqn : ∀ s ∈ steps, s.Eqn (fin m c) := (settled steps 2 steps_rising (launchContents m c)).1

/-- The same, for the steps of one part. -/
theorem eqn0 : ∀ s ∈ part0.1, s.Eqn (fin m c) := fun s h => fin_eqn m c s (List.mem_append_left _ h)

theorem eqn1 : ∀ s ∈ part1.1, s.Eqn (fin m c) := fun s h => fin_eqn m c s (List.mem_append_right _ (List.mem_append_left _ h))

theorem eqn2 : ∀ s ∈ part2.1, s.Eqn (fin m c) := fun s h => fin_eqn m c s (List.mem_append_right _ (List.mem_append_right _ (List.mem_append_left _ h)))

theorem eqn3 : ∀ s ∈ part3.1, s.Eqn (fin m c) := fun s h => fin_eqn m c s (List.mem_append_right _ (List.mem_append_right _ (List.mem_append_right _ (List.mem_append_left _ h))))

theorem eqn4 : ∀ s ∈ part4.1, s.Eqn (fin m c) := fun s h => fin_eqn m c s (List.mem_append_right _ (List.mem_append_right _ (List.mem_append_right _ (List.mem_append_right _ (List.mem_append_left _ h)))))

theorem eqn5 : ∀ s ∈ part5.1, s.Eqn (fin m c) := fun s h => fin_eqn m c s (List.mem_append_right _ (List.mem_append_right _ (List.mem_append_right _ (List.mem_append_right _ (List.mem_append_right _ (List.mem_append_left _ h))))))

theorem eqn6 : ∀ s ∈ part6.1, s.Eqn (fin m c) := fun s h => fin_eqn m c s (List.mem_append_right _ (List.mem_append_right _ (List.mem_append_right _ (List.mem_append_right _ (List.mem_append_right _ (List.mem_append_right _ (List.mem_append_left _ h)))))))

theorem eqn7 : ∀ s ∈ part7.1, s.Eqn (fin m c) := fun s h => fin_eqn m c s (List.mem_append_right _ (List.mem_append_right _ (List.mem_append_right _ (List.mem_append_right _ (List.mem_append_right _ (List.mem_append_right _ (List.mem_append_right _ h)))))))

/-- The arguments are unchanged at the end. -/
theorem fin_arg0 : fin m c main_arg0 = m ((c.tc : Thread nD τ).loc main_arg0) :=
  (settled steps 2 steps_rising (launchContents m c)).2 main_arg0 (by decide)

theorem fin_arg1 : fin m c main_arg1 = m ((c.tc : Thread nD τ).loc main_arg1) :=
  (settled steps 2 steps_rising (launchContents m c)).2 main_arg1 (by decide)

/-- The reference's run: it ends with every buffer at `fin`. -/
theorem run (ρ : Dev nD → PrngReg) :
    θ_run defs (onTc (τ := τ) (main (F := F))) ⟨m, fun _ => 0, ρ⟩ fun r =>
      ∀ (d : Dev nD) (b : Ref sig .tc), r.2.mem ((d.tc : Thread nD τ).loc b) = fin m d b :=
  run_line defs main steps main_line (by decide) (by decide) m ρ

end Cert.ReferenceIdeal.Line

end
-- ==== Proof.Ker0.lean ====
/- The kernel's three losses of one image, as its body computes them, and what the body leaves in the accumulators. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Image

open Idealize.ShloMosaic Idealize.ShloMosaic.StableHlo Idealize.ShloMosaic.TcCoe Idealize.SL.Sem Cert.KernelIdeal.Gen

variable {F : FTy → Type} [FloatOps F]

/-- The overlaps of the first eight boxes with every prediction. -/
def overlap (a : Vec F S4x980 .f32) (x : Vec F S1x25x980 .f32) (t : Vec F S1x30x5 .f32) : FVec F S8x980 .f32 :=
  k0_pay33 (k0_pay18 (k0_pay13 a x) (k0_pay15 a x)) (k0_pay19 (k0_pay14 a x) (k0_pay16 a x))
    (k0_pay20 (k0_pay13 a x) (k0_pay15 a x)) (k0_pay21 (k0_pay14 a x) (k0_pay16 a x))
    (k0_pay26 (k0_pay5 t)) (k0_pay27 (k0_pay5 t)) (k0_pay28 (k0_pay5 t)) (k0_pay29 (k0_pay5 t))
    (k0_pay30 (k0_pay5 t) (k0_pay14 a x) (k0_pay16 a x)) (k0_pay31 (k0_pay5 t) (k0_pay14 a x) (k0_pay16 a x))
    (k0_pay32 (k0_pay5 t) (k0_pay13 a x) (k0_pay15 a x))

/-- The summands of the objectness term. -/
def objTerm (a : Vec F S4x980 .f32) (x : Vec F S1x25x980 .f32) (t : Vec F S1x30x5 .f32) : FVec F S1x1x980 .f32 :=
  k0_pay35 (k0_pay11 x) (k0_pay18 (k0_pay13 a x) (k0_pay15 a x)) (k0_pay19 (k0_pay14 a x) (k0_pay16 a x))
    (k0_pay20 (k0_pay13 a x) (k0_pay15 a x)) (k0_pay21 (k0_pay14 a x) (k0_pay16 a x))
    (k0_pay26 (k0_pay5 t)) (k0_pay27 (k0_pay5 t)) (k0_pay28 (k0_pay5 t)) (k0_pay29 (k0_pay5 t))
    (k0_pay30 (k0_pay5 t) (k0_pay14 a x) (k0_pay16 a x)) (k0_pay31 (k0_pay5 t) (k0_pay14 a x) (k0_pay16 a x))
    (k0_pay32 (k0_pay5 t) (k0_pay13 a x) (k0_pay15 a x))

/-- The confidence loss. -/
def conf (a : Vec F S4x980 .f32) (x : Vec F S1x25x980 .f32) (t : Vec F S1x30x5 .f32) : F .f32 :=
  k0_pay36 (k0_pay34 (k0_pay11 x)) (objTerm a x t)

/-- The encoded centre of each box, from the index of its best prediction. -/
def encX (o : FVec F S8x980 .f32) (t : Vec F S1x30x5 .f32) : FVec F S8x1 .f32 :=
  k0_pay46 (k0_pay24 (k0_pay5 t)) (k0_pay43 (k0_pay37 o) 5#32 (k0_pay40 o) (k0_pay41 o) (k0_pay42 o))
def encY (o : FVec F S8x980 .f32) (t : Vec F S1x30x5 .f32) : FVec F S8x1 .f32 :=
  k0_pay47 (k0_pay25 (k0_pay5 t)) (k0_pay37 o) 70#32 (k0_pay44 (k0_pay37 o)) (k0_pay45 (k0_pay37 o))
    (Scalar.extui (Scalar.cmpi .sgt 70#32 0#32)) (Scalar.cmpi .slt 70#32 0#32)

/-- The summands of the localization term. -/
def locTerm (x : Vec F S1x25x980 .f32) (o : FVec F S8x980 .f32) (t : Vec F S1x30x5 .f32) : FVec F S8x980 .f32 :=
  k0_pay51 (k0_pay7 x) (k0_pay8 x) (k0_pay9 x) (k0_pay10 x) (k0_pay22 (k0_pay5 t)) (k0_pay23 (k0_pay5 t)) (k0_pay38 o) (k0_pay39 o)
    (encX o t) (encY o t) (k0_pay48 (k0_pay39 o)) k0_pay49 k0_pay50

/-- The localization loss. -/
def loc (a : Vec F S4x980 .f32) (x : Vec F S1x25x980 .f32) (t : Vec F S1x30x5 .f32) : F .f32 := k0_pay52 (locTerm x (overlap a x t) t)

/-- The class loss. -/
def cls (x : Vec F S1x25x980 .f32) : F .f32 := k0_pay53 (k0_pay4 x)

/-- Image `k` of the eight a grid point loads. -/
def ldx (x : Vec F S8x25x980 .f32) (k : Fin 8) : Vec F S1x25x980 .f32 :=
  View.ld x (Rect.unit (s := S8x25x980) ![k, 0, 0] ![1, 25, 980] (by
    have := k.isLt
    intro a; fin_cases a <;> simp [S8x25x980] <;> omega))
def ldt (t : Vec F S8x30x5 .f32) (k : Fin 8) : Vec F S1x30x5 .f32 :=
  View.ld t (Rect.unit (s := S8x30x5) ![k, 0, 0] ![1, 30, 5] (by
    have := k.isLt
    intro a; fin_cases a <;> simp [S8x30x5] <;> omega))

/-- The confidence losses of a grid point's eight images, added to what the accumulator held. -/
def confs (a : Vec F S4x980 .f32) (x : Vec F S8x25x980 .f32) (t : Vec F S8x30x5 .f32) (o : Vec F S1x1 .f32) : FVec F S1x1 .f32 :=
  k0_pay2 (conf a (ldx x 0) (ldt t 0)) (conf a (ldx x 1) (ldt t 1)) (conf a (ldx x 2) (ldt t 2)) (conf a (ldx x 3) (ldt t 3))
    (conf a (ldx x 4) (ldt t 4)) (conf a (ldx x 5) (ldt t 5)) (conf a (ldx x 6) (ldt t 6)) (conf a (ldx x 7) (ldt t 7)) o

/-- The localization losses of a grid point's eight images, added to what the accumulator held. -/
def locs (a : Vec F S4x980 .f32) (x : Vec F S8x25x980 .f32) (t : Vec F S8x30x5 .f32) (o : Vec F S1x1 .f32) : FVec F S1x1 .f32 :=
  k0_pay1 (loc a (ldx x 0) (ldt t 0)) (loc a (ldx x 1) (ldt t 1)) (loc a (ldx x 2) (ldt t 2)) (loc a (ldx x 3) (ldt t 3))
    (loc a (ldx x 4) (ldt t 4)) (loc a (ldx x 5) (ldt t 5)) (loc a (ldx x 6) (ldt t 6)) (loc a (ldx x 7) (ldt t 7)) o

/-- The class losses of a grid point's eight images, added to what the accumulator held. -/
def clss (x : Vec F S8x25x980 .f32) (o : Vec F S1x1 .f32) : FVec F S1x1 .f32 :=
  k0_pay3 (cls (ldx x 0)) (cls (ldx x 1)) (cls (ldx x 2)) (cls (ldx x 3)) (cls (ldx x 4)) (cls (ldx x 5)) (cls (ldx x 6)) (cls (ldx x 7)) o

variable (m : (ℓ : Loc nD τ sig) → Buf (Elt Ideal) ℓ) (c : Dev nD)

/-- What the three accumulators hold after the first grid point, and after the second. -/
theorem loc_first (t : Fin cfg0.N) (h0 : t.val % 2 = 0) :
    (outsAt0 m c t.val t.isLt).1 = locs (F := Ideal) (iblk m c 2 t) (iblk m c 0 t) (iblk m c 1 t) (fun _ => Ideal.ofBits .f32 0x00000000#32) := by
  rw [outsAt0_A m c t h0]
  frame_out
  rfl

theorem loc_next (t : Fin cfg0.N) (h0 : ¬t.val % 2 = 0) :
    (outsAt0 m c t.val t.isLt).1 = locs (F := Ideal) (iblk m c 2 t) (iblk m c 0 t) (iblk m c 1 t)
      (outsAt0 m c (t.val - 1) (Nat.lt_of_le_of_lt (Nat.sub_le _ _) t.isLt)).1 := by
  rw [outsAt0_B m c t h0]
  frame_out
  rfl

theorem conf_first (t : Fin cfg0.N) (h0 : t.val % 2 = 0) :
    (outsAt0 m c t.val t.isLt).2.1 = confs (F := Ideal) (iblk m c 2 t) (iblk m c 0 t) (iblk m c 1 t) (fun _ => Ideal.ofBits .f32 0x00000000#32) := by
  rw [outsAt0_A m c t h0]
  frame_out
  rfl

theorem conf_next (t : Fin cfg0.N) (h0 : ¬t.val % 2 = 0) :
    (outsAt0 m c t.val t.isLt).2.1 = confs (F := Ideal) (iblk m c 2 t) (iblk m c 0 t) (iblk m c 1 t)
      (outsAt0 m c (t.val - 1) (Nat.lt_of_le_of_lt (Nat.sub_le _ _) t.isLt)).2.1 := by
  rw [outsAt0_B m c t h0]
  frame_out
  rfl

theorem cls_first (t : Fin cfg0.N) (h0 : t.val % 2 = 0) :
    (outsAt0 m c t.val t.isLt).2.2 = clss (F := Ideal) (iblk m c 0 t) (fun _ => Ideal.ofBits .f32 0x00000000#32) := by
  rw [outsAt0_A m c t h0]
  frame_out
  rfl

theorem cls_next (t : Fin cfg0.N) (h0 : ¬t.val % 2 = 0) :
    (outsAt0 m c t.val t.isLt).2.2 = clss (F := Ideal) (iblk m c 0 t)
      (outsAt0 m c (t.val - 1) (Nat.lt_of_le_of_lt (Nat.sub_le _ _) t.isLt)).2.2 := by
  rw [outsAt0_B m c t h0]
  frame_out
  rfl

end Cert.KernelIdeal.Image

end
-- ==== Proof.Spec.lean ====
/- The loss of one image in plain terms, over the extended reals: the terms both programs are read down to. -/
module

public import Idealize.ShloMosaic.PureOps.Ideal

@[expose] public section

noncomputable section

namespace Yolo

open Idealize.ShloMosaic

/-- The float words the two programs share, as extended reals. -/
abbrev c32 : EReal := Ideal.ofBits .f32 0x42000000#32
abbrev c2 : EReal := Ideal.ofBits .f32 0x40000000#32
abbrev half : EReal := Ideal.ofBits .f32 0x3F000000#32
abbrev eps : EReal := Ideal.ofBits .f32 0x322BCC77#32
abbrev thresh : EReal := Ideal.ofBits .f32 0x3F19999A#32

/-- An image's predictions: 25 channels at each of 980 predictors. Its boxes: 30 rows of 5 numbers. -/
abbrev Pred := Fin 980 → Fin 25 → EReal
abbrev Boxes := Fin 30 → Fin 5 → EReal

/-- A predictor's grid row, grid column and anchor. -/
abbrev gr (n : Fin 980) : Fin 14 := ⟨n.val / 70, by omega⟩
abbrev gc (n : Fin 980) : Fin 14 := ⟨n.val / 5 % 14, by omega⟩
abbrev ga (n : Fin 980) : Fin 5 := ⟨n.val % 5, by omega⟩

/-- The anchors' widths and heights. -/
def anchW : Fin 5 → EReal := ![Ideal.ofBits .f32 0x3FA93A93#32, Ideal.ofBits .f32 0x404C5604#32, Ideal.ofBits .f32 0x40A1C9B0#32,
  Ideal.ofBits .f32 0x411789B5#32, Ideal.ofBits .f32 0x4133C84B#32]
def anchH : Fin 5 → EReal := ![Ideal.ofBits .f32 0x3FDDA027#32, Ideal.ofBits .f32 0x40804D55#32, Ideal.ofBits .f32 0x4101952D#32,
  Ideal.ofBits .f32 0x409AE59F#32, Ideal.ofBits .f32 0x41201D15#32]

/-- A small number as a float. -/
abbrev num (k : ℕ) : EReal := FloatOps.sitofp (F := Ideal) .f32 (BitVec.ofNat 32 k)

/-- The logistic function. -/
def sg (v : EReal) : EReal := Ideal.div 1 (1 + Ideal.exp (-v))

section Image

variable (x : Pred) (t : Boxes)

/-- The four predicted coordinates, and the predicted confidence. -/
def pl (n : Fin 980) : Fin 4 → EReal := ![sg (x n 0), sg (x n 1), sg (x n 2) * half, sg (x n 3) * half]
def pc (n : Fin 980) : EReal := sg (x n 4)

/-- The predicted box: centre and size, then its corners. -/
def bx (n : Fin 980) : EReal := (pl x n 0 + num (gc n).val) * c32
def by' (n : Fin 980) : EReal := (pl x n 1 + num (gr n).val) * c32
def bw (n : Fin 980) : EReal := Ideal.exp (pl x n 2) * anchW (ga n) * c32
def bh (n : Fin 980) : EReal := Ideal.exp (pl x n 3) * anchH (ga n) * c32
def px1 (n : Fin 980) : EReal := bx x n - Ideal.div (bw x n) c2
def py1 (n : Fin 980) : EReal := by' x n - Ideal.div (bh x n) c2
def px2 (n : Fin 980) : EReal := bx x n + Ideal.div (bw x n) c2
def py2 (n : Fin 980) : EReal := by' x n + Ideal.div (bh x n) c2

theorem bx_eq (n : Fin 980) : bx x n = (Ideal.div 1 (1 + Ideal.exp (-x n 0)) + num (gc n).val) * c32 := rfl
theorem by_eq (n : Fin 980) : by' x n = (Ideal.div 1 (1 + Ideal.exp (-x n 1)) + num (gr n).val) * c32 := rfl
theorem bw_eq (n : Fin 980) : bw x n = Ideal.exp (Ideal.div 1 (1 + Ideal.exp (-x n 2)) * half) * anchW (ga n) * c32 := rfl
theorem bh_eq (n : Fin 980) : bh x n = Ideal.exp (Ideal.div 1 (1 + Ideal.exp (-x n 3)) * half) * anchH (ga n) * c32 := rfl

/-- The true box: centre, then corners. -/
def cx (m : Fin 30) : EReal := t m 0 + Ideal.div (t m 2) c2
def cy (m : Fin 30) : EReal := t m 1 + Ideal.div (t m 3) c2
def gx1 (m : Fin 30) : EReal := cx t m - Ideal.div (t m 2) c2
def gy1 (m : Fin 30) : EReal := cy t m - Ideal.div (t m 3) c2
def gx2 (m : Fin 30) : EReal := cx t m + Ideal.div (t m 2) c2
def gy2 (m : Fin 30) : EReal := cy t m + Ideal.div (t m 3) c2

/-- Intersection, union and their quotient. -/
def inter (m : Fin 30) (n : Fin 980) : EReal :=
  max (min (gx2 t m) (px2 x n) - max (gx1 t m) (px1 x n)) 0 * max (min (gy2 t m) (py2 x n) - max (gy1 t m) (py1 x n)) 0
def union (m : Fin 30) (n : Fin 980) : EReal :=
  (gx2 t m - gx1 t m) * (gy2 t m - gy1 t m) + (px2 x n - px1 x n) * (py2 x n - py1 x n) - inter x t m n
def iou (m : Fin 30) (n : Fin 980) : EReal := Ideal.div (inter x t m n) (max (union x t m n) eps)

/-- The first index at which a function on the predictors is greatest. -/
theorem exists_firstMax (f : Fin 980 → EReal) : ∃ n, (∀ j, f j ≤ f n) ∧ ∀ j < n, f j < f n := by
  obtain ⟨k, hk⟩ := Finite.exists_max f
  have hne : (Finset.univ.filter fun n => ∀ j, f j ≤ f n).Nonempty := ⟨k, by simpa using hk⟩
  refine ⟨Finset.min' _ hne, ?_, fun j hj => ?_⟩
  · simpa using Finset.min'_mem _ hne
  · by_contra h
    have hm : ∀ i, f i ≤ f (Finset.min' _ hne) := by simpa using Finset.min'_mem _ hne
    exact absurd (Finset.min'_le _ j (by simpa using fun i => (hm i).trans (not_lt.mp h))) (not_le.mpr hj)

def firstMax (f : Fin 980 → EReal) : Fin 980 := Classical.choose (exists_firstMax f)

theorem firstMax_max (f : Fin 980 → EReal) (j : Fin 980) : f j ≤ f (firstMax f) := (Classical.choose_spec (exists_firstMax f)).1 j
theorem firstMax_first (f : Fin 980 → EReal) {j : Fin 980} (h : j < firstMax f) : f j < f (firstMax f) :=
  (Classical.choose_spec (exists_firstMax f)).2 j h

theorem firstMax_eq {f : Fin 980 → EReal} {n : Fin 980} (h : ∀ j, f j ≤ f n) (h' : ∀ j < n, f j < f n) : firstMax f = n := by
  rcases lt_trichotomy (firstMax f) n with hl | he | hl
  · exact absurd (h' _ hl) (not_lt.mpr (firstMax_max f n))
  · exact he
  · exact absurd (firstMax_first f hl) (not_lt.mpr (h _))

/-- One of the first eight boxes, as a row. -/
abbrev row (i : Fin 8) : Fin 30 := ⟨i.val, by omega⟩

/-- The predictor a box falls on, and whether the box is the last to fall there. -/
def best (i : Fin 30) : Fin 980 := firstMax (iou x t i)
def Wins (i : Fin 8) (n : Fin 980) : Prop := best x t (row i) = n ∧ ∀ j, i < j → best x t (row j) ≠ n

/-- The coordinates a box asks of its predictor. -/
def enc (i : Fin 30) : Fin 4 → EReal :=
  ![Ideal.div (cx t i - num (gc (best x t i)).val * c32) c32, Ideal.div (cy t i - num (gr (best x t i)).val * c32) c32,
    Ideal.log (max (Ideal.div (Ideal.div (t i 2) c32) (anchW (ga (best x t i)))) eps),
    Ideal.log (max (Ideal.div (Ideal.div (t i 3) c32) (anchH (ga (best x t i)))) eps)]

/-- The squared difference in one coordinate, and the localization loss. -/
def dev (i : Fin 30) (n : Fin 980) (k : Fin 4) : EReal := (pl x n k - enc x t i k) * (pl x n k - enc x t i k)

open Classical in
def loc : EReal := ∑ i : Fin 8, ∑ n, if Wins x t i n then dev x t (row i) n 0 + dev x t (row i) n 1 + dev x t (row i) n 2 + dev x t (row i) n 3 else 0

/-- Whether a predictor holds an object, and the confidence loss. -/
def Obj (n : Fin 980) : Prop := ∃ i : Fin 8, thresh < iou x t (row i) n

open Classical in
def conf : EReal := half * ∑ n, pc x n * pc x n + ∑ n, if Obj x t n then half * pc x n * pc x n - c2 * pc x n + 1 else 0

/-- The greatest class score of a predictor, and the class loss. -/
def cmax (n : Fin 980) : EReal := Finset.univ.sup fun k : Fin 20 => x n ⟨k.val + 5, by omega⟩
def cls : EReal := ∑ n, (cmax x n + Ideal.log (∑ k : Fin 20, Ideal.exp (x n ⟨k.val + 5, by omega⟩ - cmax x n)) - x n 5)

end Image

end Yolo

end
-- ==== Proof.Ker1.lean ====
/- The kernel's losses of one image, read down to plain terms. -/
module

public import proofs.«01_k».proof.Proof.Ker0
public import proofs.«01_k».proof.Proof.Spec

@[expose] public section

set_option maxRecDepth 16384

noncomputable section

namespace Cert.KernelIdeal.Image

open Idealize.ShloMosaic Idealize.SL.Sem Cert.KernelIdeal.Gen Yolo

/-- The lane table: anchors, columns and rows. -/
structure Table (a : FVec Ideal S4x980 .f32) : Prop where
  w : ∀ n, a (ix2 0 n) = anchW (ga n)
  h : ∀ n, a (ix2 1 n) = anchH (ga n)
  c : ∀ n, a (ix2 2 n) = num (gc n).val
  r : ∀ n, a (ix2 3 n) = num (gr n).val

/-- The image's predictions and boxes. -/
def kx (x : FVec Ideal S1x25x980 .f32) : Pred := fun n k => x (ix3 0 k n)
def kt (t : FVec Ideal S1x30x5 .f32) : Boxes := fun i k => t (ix3 0 i k)

variable {a : FVec Ideal S4x980 .f32} (ha : Table a) (x : FVec Ideal S1x25x980 .f32) (t : FVec Ideal S1x30x5 .f32)
  (n : Fin 980) (i : Fin 8)

theorem sg_at (k : Fin 5) : (k0_pay6 (F := Ideal) x : FVec Ideal S5x980 .f32) (ix2 k n) = sg (x (ix3 0 ⟨k.val, by omega⟩ n)) := by
  pointwise [k0_pay6, k0_pay4]
  rw [zero_sub]; rfl

theorem pl0_at : (k0_pay7 (F := Ideal) x : FVec Ideal S1x980 .f32) (ix2 0 n) = pl (kx x) n 0 := by
  pointwise [k0_pay7]
  rw [sg_at]
  rfl

theorem pl1_at : (k0_pay8 (F := Ideal) x : FVec Ideal S1x980 .f32) (ix2 0 n) = pl (kx x) n 1 := by
  pointwise [k0_pay8]
  rw [sg_at]
  rfl

theorem pl2_at : (k0_pay9 (F := Ideal) x : FVec Ideal S1x980 .f32) (ix2 0 n) = pl (kx x) n 2 := by
  pointwise [k0_pay9]
  rw [sg_at]
  rfl

theorem pl3_at : (k0_pay10 (F := Ideal) x : FVec Ideal S1x980 .f32) (ix2 0 n) = pl (kx x) n 3 := by
  pointwise [k0_pay10]
  rw [sg_at]
  rfl

theorem pc_at : (k0_pay11 (F := Ideal) x : FVec Ideal S1x980 .f32) (ix2 0 n) = pc (kx x) n := by
  pointwise [k0_pay11]
  rw [sg_at]
  rfl

include ha in
theorem bx_at : (k0_pay13 (F := Ideal) a x : FVec Ideal S1x980 .f32) (ix2 0 n) = bx (kx x) n := by
  pointwise [k0_pay13]
  rw [pl0_at, ha.c]
  rfl

include ha in
theorem by_at : (k0_pay14 (F := Ideal) a x : FVec Ideal S1x980 .f32) (ix2 0 n) = by' (kx x) n := by
  pointwise [k0_pay14]
  rw [pl1_at, ha.r]
  rfl

include ha in
theorem bw_at : (k0_pay15 (F := Ideal) a x : FVec Ideal S1x980 .f32) (ix2 0 n) = bw (kx x) n := by
  pointwise [k0_pay15, k0_pay12]
  rw [sg_at, ha.w]
  rfl

include ha in
theorem bh_at : (k0_pay17 (F := Ideal) (k0_pay16 a x) : FVec Ideal S1x980 .f32) (ix2 0 n) = bh (kx x) n := by
  pointwise [k0_pay17, k0_pay16, k0_pay12]
  rw [sg_at, ha.h]
  rfl

include ha in
theorem px1_at : (k0_pay18 (F := Ideal) (k0_pay13 a x) (k0_pay15 a x) : FVec Ideal S1x980 .f32) (ix2 0 n) = px1 (kx x) n := by
  pointwise [k0_pay18]
  rw [bx_at ha, bw_at ha]
  rfl

include ha in
theorem py1_at : (k0_pay19 (F := Ideal) (k0_pay14 a x) (k0_pay16 a x) : FVec Ideal S1x980 .f32) (ix2 0 n) = py1 (kx x) n := by
  pointwise [k0_pay19]
  rw [by_at ha, bh_at ha]
  rfl

include ha in
theorem px2_at : (k0_pay20 (F := Ideal) (k0_pay13 a x) (k0_pay15 a x) : FVec Ideal S1x980 .f32) (ix2 0 n) = px2 (kx x) n := by
  pointwise [k0_pay20]
  rw [bx_at ha, bw_at ha]
  rfl

include ha in
theorem py2_at : (k0_pay21 (F := Ideal) (k0_pay14 a x) (k0_pay16 a x) : FVec Ideal S1x980 .f32) (ix2 0 n) = py2 (kx x) n := by
  pointwise [k0_pay21]
  rw [by_at ha, bh_at ha]
  rfl

theorem cx_at : (k0_pay24 (F := Ideal) (k0_pay5 t) : FVec Ideal S8x1 .f32) (ix2 i 0) = cx (kt t) (row i) := by
  pointwise [k0_pay24, k0_pay22, k0_pay5]
  rfl

theorem cy_at : (k0_pay25 (F := Ideal) (k0_pay5 t) : FVec Ideal S8x1 .f32) (ix2 i 0) = cy (kt t) (row i) := by
  pointwise [k0_pay25, k0_pay23, k0_pay5]
  rfl

theorem gx1_at : (k0_pay26 (F := Ideal) (k0_pay5 t) : FVec Ideal S8x1 .f32) (ix2 i 0) = gx1 (kt t) (row i) := by
  pointwise [k0_pay26, k0_pay24, k0_pay22, k0_pay5]
  rfl

theorem gy1_at : (k0_pay27 (F := Ideal) (k0_pay5 t) : FVec Ideal S8x1 .f32) (ix2 i 0) = gy1 (kt t) (row i) := by
  pointwise [k0_pay27, k0_pay25, k0_pay23, k0_pay5]
  rfl

theorem gx2_at : (k0_pay28 (F := Ideal) (k0_pay5 t) : FVec Ideal S8x1 .f32) (ix2 i 0) = gx2 (kt t) (row i) := by
  pointwise [k0_pay28, k0_pay24, k0_pay22, k0_pay5]
  rfl

theorem gy2_at : (k0_pay29 (F := Ideal) (k0_pay5 t) : FVec Ideal S8x1 .f32) (ix2 i 0) = gy2 (kt t) (row i) := by
  pointwise [k0_pay29, k0_pay25, k0_pay23, k0_pay5]
  rfl

include ha in
/-- The overlaps. -/
theorem iou_at : (overlap a x t : FVec Ideal S8x980 .f32) (ix2 i n) = iou (kx x) (kt t) (row i) n := by
  pointwise [overlap, k0_pay33, k0_pay30, k0_pay31, k0_pay32]
  rw [gx1_at, gx2_at, gy1_at, gy2_at, px1_at ha, px2_at ha, py1_at ha, py2_at ha]
  rfl

end Cert.KernelIdeal.Image

end
-- ==== Proof.Words.lean ====
/- Extreme folds over words and over the extended reals, and the words of a predictor's row, column and anchor. -/
module

public import proofs.«01_k».proof.Proof.Spec
public import Idealize.ShloMosaic.Lib.SortNet.Extract
public import Idealize.ShloMosaic.Lib.Pointwise
public import Idealize.ShloMosaic.Lib.Decide

@[expose] public section

noncomputable section

namespace Yolo

open Idealize.ShloMosaic

/-- The word that starts a greatest-value fold is −∞. -/
theorem ofBits_negInf : Ideal.ofBits .f32 4286578688#32 = ⊥ := by
  simp [Ideal.ofBits, Ideal.ieee]

/-- A greatest-value fold is a supremum. -/
theorem fold_max_sup {ι : Type*} (f : ι → EReal) (s : Finset ι) : s.fold max (Ideal.ofBits .f32 4286578688#32) f = s.sup f := by
  rw [ofBits_negInf]; rfl

/-- Over the predictors, it is the value at the first greatest index. -/
theorem fold_max_firstMax (f : Fin 980 → EReal) :
    (Finset.univ : Finset (Fin 980)).fold max (Ideal.ofBits .f32 4286578688#32) f = f (firstMax f) := by
  rw [fold_max_sup]
  exact le_antisymm (Finset.sup_le fun j _ => firstMax_max f j) (Finset.le_sup (Finset.mem_univ _))

/-- A least-word fold is the word of an index that is least. -/
theorem fold_minsi_eq {ι : Type} [DecidableEq ι] (s : Finset ι) (g : ι → BitVec 32) (b : BitVec 32) (k : ι) (hk : k ∈ s)
    (h : ∀ i ∈ s, (g k).toInt ≤ (g i).toInt) (hb : (g k).toInt ≤ b.toInt) : s.fold IntOp.minsi b g = g k := by
  apply BitVec.eq_of_toInt_eq
  rw [← Finset.fold_hom (op' := min) (m := BitVec.toInt) SortNet.toInt_minsi]
  apply le_antisymm
  · exact (Finset.fold_min_le _).mpr (Or.inr ⟨k, hk, le_rfl⟩)
  · exact (Finset.le_fold_min _).mpr ⟨hb, h⟩

/-- A greatest-word fold is the word of an index that is greatest. -/
theorem fold_maxsi_eq {ι : Type} [DecidableEq ι] (s : Finset ι) (g : ι → BitVec 32) (b : BitVec 32) (k : ι) (hk : k ∈ s)
    (h : ∀ i ∈ s, (g i).toInt ≤ (g k).toInt) (hb : b.toInt ≤ (g k).toInt) : s.fold IntOp.maxsi b g = g k := by
  apply BitVec.eq_of_toInt_eq
  obtain ⟨h1, h2, h3⟩ := SortNet.fold_maxsi_spec g s b
  apply le_antisymm
  · rcases h3 with h3 | ⟨i, hi, h3⟩
    · rw [h3]; exact hb
    · rw [h3]; exact h i hi
  · exact h2 k hk

theorem toInt_980 : ∀ n : Fin 980, (BitVec.ofNat 32 n.val).toInt = n.val := by decide +kernel
theorem toInt_8 : ∀ n : Fin 8, (BitVec.ofNat 32 n.val).toInt = n.val := by decide +kernel
theorem ofNat_980 (n k : Fin 980) : BitVec.ofNat 32 n.val = BitVec.ofNat 32 k.val ↔ n = k := by
  refine ⟨fun h => ?_, fun h => by rw [h]⟩
  have := congrArg BitVec.toInt h
  rw [toInt_980, toInt_980] at this
  exact Fin.ext (by exact_mod_cast this)

/-- The least index among those where a function is greatest. -/
theorem fold_min_index (f : Fin 980 → EReal) (M : EReal) (hM : M = f (firstMax f)) [∀ x, Decidable (f x = M)] :
    Finset.fold IntOp.minsi 2147483647#32 (fun x : Fin 980 => if f x = M then BitVec.ofNat 32 x.val else 980#32) Finset.univ =
      BitVec.ofNat 32 (firstMax f).val := by
  have hk : (if f (firstMax f) = M then BitVec.ofNat 32 (firstMax f).val else 980#32) = BitVec.ofNat 32 (firstMax f).val := if_pos hM.symm
  have := fold_minsi_eq Finset.univ (fun x : Fin 980 => if f x = M then BitVec.ofNat 32 x.val else 980#32) 2147483647#32 (firstMax f)
    (Finset.mem_univ _) (fun i _ => ?_) ?_
  · rw [this, hk]
  · simp only [hk]
    rw [toInt_980]
    split
    · rename_i hi
      rw [toInt_980]
      by_contra hlt
      have : i < firstMax f := by
        rw [Fin.lt_def]; omega
      exact absurd (firstMax_first f this) (by rw [hi, hM]; exact lt_irrefl _)
    · have : (980#32).toInt = 980 := by decide
      rw [this]; have := (firstMax f).isLt; omega
  · simp only [hk]
    rw [toInt_980]
    have : (2147483647#32).toInt = 2147483647 := by decide
    rw [this]; have := (firstMax f).isLt; omega

/-- The last of the boxes that fall on a predictor, as the program finds it. -/
theorem win_word (b : Fin 8 → Fin 980) (i : Fin 8) (n : Fin 980) [Decidable (b i = n ∧ ∀ j, i < j → b j ≠ n)] :
    IntOp.andi (IntOp.cmpi .eq (BitVec.ofNat 32 n.val) (BitVec.ofNat 32 (b i).val))
      (IntOp.cmpi .eq (BitVec.ofNat 32 i.val) (Finset.fold IntOp.maxsi 2147483648#32 (fun j : Fin 8 =>
        Scalar.select (IntOp.cmpi .eq (BitVec.ofNat 32 n.val) (BitVec.ofNat 32 (b j).val)) (BitVec.ofNat 32 j.val) 4294967295#32) Finset.univ)) =
    if b i = n ∧ ∀ j, i < j → b j ≠ n then 1#1 else 0#1 := by
  have hc : ∀ j, IntOp.cmpi .eq (BitVec.ofNat 32 n.val) (BitVec.ofNat 32 (b j).val) = if b j = n then 1#1 else 0#1 := fun j => by
    by_cases h : b j = n
    · rw [if_pos h, h]; simp [IntOp.cmpi]
    · rw [if_neg h]
      have : ¬BitVec.ofNat 32 n.val = BitVec.ofNat 32 (b j).val := fun e => h ((ofNat_980 _ _).mp e).symm
      show BitVec.ofBool (_ == _) = _
      rw [beq_eq_false_iff_ne.mpr this]; rfl
  simp only [hc]
  have hs : ∀ j : Fin 8, Scalar.select (if b j = n then 1#1 else 0#1) (BitVec.ofNat 32 j.val) 4294967295#32 =
      if b j = n then BitVec.ofNat 32 j.val else 4294967295#32 := fun j => by
    by_cases h : b j = n
    · rw [if_pos h, if_pos h]; rfl
    · rw [if_neg h, if_neg h]; rfl
  simp only [hs]
  have hm1 : (4294967295#32).toInt = -1 := by decide
  have hm2 : (2147483648#32).toInt = -2147483648 := by decide
  by_cases hi : b i = n
  · by_cases hl : ∀ j, i < j → b j ≠ n
    · rw [if_pos hi, if_pos ⟨hi, hl⟩,
        fold_maxsi_eq Finset.univ (fun j : Fin 8 => if b j = n then BitVec.ofNat 32 j.val else 4294967295#32) _ i (Finset.mem_univ _)]
      · simp only [if_pos hi]; simp [IntOp.cmpi, IntOp.andi]
      · intro j _
        simp only [if_pos hi, toInt_8]
        split
        · rename_i hj
          rw [toInt_8]
          by_contra hlt
          exact hl j (by rw [Fin.lt_def]; omega) hj
        · rw [hm1]; omega
      · simp only [if_pos hi, toInt_8, hm2]; omega
    · have hn : ¬(b i = n ∧ ∀ j, i < j → b j ≠ n) := fun h => hl h.2
      rw [if_neg hn]
      push Not at hl
      obtain ⟨j, hj, hjn⟩ := hl
      have h2 := (SortNet.fold_maxsi_spec (fun j : Fin 8 => if b j = n then BitVec.ofNat 32 j.val else 4294967295#32) Finset.univ
        2147483648#32).2.1 j (Finset.mem_univ _)
      simp only [if_pos hjn, toInt_8] at h2
      have : ¬ BitVec.ofNat 32 i.val = Finset.fold IntOp.maxsi 2147483648#32
          (fun j : Fin 8 => if b j = n then BitVec.ofNat 32 j.val else 4294967295#32) Finset.univ := fun e => by
        rw [← e, toInt_8] at h2
        rw [Fin.lt_def] at hj; omega
      have hz : IntOp.cmpi .eq (BitVec.ofNat 32 i.val) (Finset.fold IntOp.maxsi 2147483648#32
          (fun j : Fin 8 => if b j = n then BitVec.ofNat 32 j.val else 4294967295#32) Finset.univ) = 0#1 := by
        show BitVec.ofBool (_ == _) = _
        rw [beq_eq_false_iff_ne.mpr this]; rfl
      rw [hz]; simp [IntOp.andi]
  · rw [if_neg hi, if_neg fun h => hi h.1]
    simp [IntOp.andi]

/-- The anchor whose number a word holds. -/
theorem select_anchW : ∀ a : Fin 5, Scalar.select (IntOp.cmpi .eq (BitVec.ofNat 32 a.val) 4#32) (Ideal.ofBits .f32 1093912651#32)
    (Scalar.select (IntOp.cmpi .eq (BitVec.ofNat 32 a.val) 3#32) (Ideal.ofBits .f32 1092061621#32)
      (Scalar.select (IntOp.cmpi .eq (BitVec.ofNat 32 a.val) 2#32) (Ideal.ofBits .f32 1084344752#32)
        (Scalar.select (IntOp.cmpi .eq (BitVec.ofNat 32 a.val) 1#32) (Ideal.ofBits .f32 1078744580#32) (Ideal.ofBits .f32 1068055187#32)))) = anchW a
  | 0 => rfl
  | 1 => rfl
  | 2 => rfl
  | 3 => rfl
  | 4 => rfl

theorem select_anchH : ∀ a : Fin 5, Scalar.select (IntOp.cmpi .eq (BitVec.ofNat 32 a.val) 4#32) (Ideal.ofBits .f32 1092623637#32)
    (Scalar.select (IntOp.cmpi .eq (BitVec.ofNat 32 a.val) 3#32) (Ideal.ofBits .f32 1083893151#32)
      (Scalar.select (IntOp.cmpi .eq (BitVec.ofNat 32 a.val) 2#32) (Ideal.ofBits .f32 1090622765#32)
        (Scalar.select (IntOp.cmpi .eq (BitVec.ofNat 32 a.val) 1#32) (Ideal.ofBits .f32 1082150229#32) (Ideal.ofBits .f32 1071489063#32)))) = anchH a
  | 0 => rfl
  | 1 => rfl
  | 2 => rfl
  | 3 => rfl
  | 4 => rfl

end Yolo

end
-- ==== Proof.Ker2.lean ====
/- The kernel's losses of one image are the plain ones. -/
module

public import proofs.«01_k».proof.Proof.Ker1
public import proofs.«01_k».proof.Proof.Words

@[expose] public section

set_option maxRecDepth 16384

noncomputable section

namespace Cert.KernelIdeal.Image

open Idealize.ShloMosaic Idealize.SL.Sem Cert.KernelIdeal.Gen Yolo

variable {a : FVec Ideal S4x980 .f32} (ha : Table a) (x : FVec Ideal S1x25x980 .f32) (t : FVec Ideal S1x30x5 .f32)
  (n : Fin 980) (i : Fin 8)

/-- The index of a row's first greatest entry. -/
theorem index_at (o : FVec Ideal S8x980 .f32) :
    (k0_pay37 (F := Ideal) o : IVec S8x1 32) (ix2 i 0) = BitVec.ofNat 32 (firstMax fun n => o (ix2 i n)).val := by
  pointwise [k0_pay37]
  exact fold_min_index (fun n => o (ix2 i n)) _ (fold_max_firstMax fun n => o (ix2 i n))

include ha in
/-- The predictor a box falls on. -/
theorem best_at : (k0_pay37 (F := Ideal) (overlap a x t) : IVec S8x1 32) (ix2 i 0) = BitVec.ofNat 32 (best (kx x) (kt t) (row i)).val := by
  rw [index_at]
  have e : ∀ n, overlap (F := Ideal) a x t (ix2 i n) = iou (kx x) (kt t) (row i) n := fun n => iou_at ha x t n i
  simp only [e]
  rfl

open Classical in
include ha in
/-- Where a box is the last to fall. -/
theorem win_at : (k0_pay38 (F := Ideal) (overlap a x t) : IVec S8x980 1) (ix2 i n) = if Wins (kx x) (kt t) i n then 1#1 else 0#1 := by
  pointwise [k0_pay38]
  simp only [best_at ha]
  exact (win_word (fun i => best (kx x) (kt t) (row i)) i n).trans (if_congr Iff.rfl rfl rfl)

include ha in
/-- The anchor, the column and the row of the predictor a box falls on, as words. -/
theorem anchor_at : (k0_pay39 (F := Ideal) (overlap a x t) : IVec S8x1 32) (ix2 i 0) = BitVec.ofNat 32 (ga (best (kx x) (kt t) (row i))).val := by
  pointwise [k0_pay39]
  rw [best_at ha]
  generalize best (kx x) (kt t) (row i) = q
  revert q
  decide +kernel

include ha in
theorem column_at : (k0_pay43 (k0_pay37 (F := Ideal) (overlap a x t)) 5#32 (k0_pay40 (F := Ideal) (overlap a x t)) (k0_pay41 (F := Ideal) (overlap a x t))
    (k0_pay42 (F := Ideal) (overlap a x t)) : IVec S8x1 32) (ix2 i 0) = BitVec.ofNat 32 (gc (best (kx x) (kt t) (row i))).val := by
  pointwise [k0_pay43, k0_pay40, k0_pay41, k0_pay42]
  rw [best_at ha]
  generalize best (kx x) (kt t) (row i) = q
  revert q
  decide +kernel

include ha in
theorem encX_at : (encX (F := Ideal) (overlap a x t) t : FVec Ideal S8x1 .f32) (ix2 i 0) = enc (kx x) (kt t) (row i) 0 := by
  pointwise [encX, k0_pay46]
  rw [column_at ha, cx_at]
  rfl

/-- The row's word, from the predictor's. -/
theorem row_word : ∀ q : Fin 980,
    Scalar.select (IntOp.andi (IntOp.cmpi .ne
        (IntOp.subi (BitVec.setWidth 32 (IntOp.cmpi .sgt (BitVec.ofNat 32 q.val) 0#32)) (BitVec.setWidth 32 (IntOp.cmpi .slt (BitVec.ofNat 32 q.val) 0#32)))
        (Scalar.subi (Scalar.extui (Scalar.cmpi .sgt 70#32 0#32)) (Scalar.extui (Scalar.cmpi .slt 70#32 0#32))))
      (IntOp.cmpi .ne (IntOp.remsi .vector (BitVec.ofNat 32 q.val) 70#32) 0#32))
      (IntOp.subi (IntOp.divsi .vector (BitVec.ofNat 32 q.val) 70#32) 1#32) (IntOp.divsi .vector (BitVec.ofNat 32 q.val) 70#32) =
    BitVec.ofNat 32 (gr q).val := by
  decide +kernel

include ha in
theorem encY_at : (encY (F := Ideal) (overlap a x t) t : FVec Ideal S8x1 .f32) (ix2 i 0) = enc (kx x) (kt t) (row i) 1 := by
  pointwise [encY, k0_pay47, k0_pay44, k0_pay45]
  rw [best_at ha, row_word, cy_at]
  rfl

theorem tw_at : (k0_pay22 (F := Ideal) (k0_pay5 t) : FVec Ideal S8x1 .f32) (ix2 i 0) = kt t (row i) 2 := by
  pointwise [k0_pay22, k0_pay5]
  rfl

theorem th_at : (k0_pay23 (F := Ideal) (k0_pay5 t) : FVec Ideal S8x1 .f32) (ix2 i 0) = kt t (row i) 3 := by
  pointwise [k0_pay23, k0_pay5]
  rfl

open Classical in
include ha in
theorem locTerm_at : (locTerm (F := Ideal) x (overlap a x t) t : FVec Ideal S8x980 .f32) (ix2 i n) =
    if Wins (kx x) (kt t) i n then dev (kx x) (kt t) (row i) n 0 + dev (kx x) (kt t) (row i) n 1 + dev (kx x) (kt t) (row i) n 2 +
      dev (kx x) (kt t) (row i) n 3 else 0 := by
  pointwise [locTerm, k0_pay51, k0_pay48, k0_pay49, k0_pay50]
  rw [win_at ha, anchor_at ha, select_anchW, select_anchH, encX_at ha, encY_at ha, pl0_at, pl1_at, pl2_at, pl3_at, tw_at, th_at]
  by_cases h : Wins (kx x) (kt t) i n
  · rw [if_pos h, if_pos h]; rfl
  · rw [if_neg h, if_neg h]; rfl

include ha in
/-- The localization loss. -/
theorem loc_eq : loc (F := Ideal) a x t = Yolo.loc (kx x) (kt t) := by
  unfold loc
  pointwise [k0_pay52]
  unfold Yolo.loc
  exact Finset.sum_congr rfl fun i _ => Finset.sum_congr rfl fun n _ => locTerm_at ha x t n i

/-- Some entry of a fold of ones and zeros is one. -/
theorem fold_pos (p : Fin 8 → Prop) [∀ i, Decidable (p i)] :
    0 < Finset.fold max (Ideal.ofBits .f32 4286578688#32) (fun i => if p i then (1 : EReal) else 0) Finset.univ ↔ ∃ i, p i := by
  rw [fold_max_sup, Finset.lt_sup_iff]
  refine exists_congr fun i => ⟨fun h => ?_, fun h => ⟨Finset.mem_univ _, by rw [if_pos h]; exact zero_lt_one⟩⟩
  by_contra hn
  rw [if_neg hn] at h
  exact lt_irrefl _ h.2

open Classical in
include ha in
/-- The confidence loss. -/
theorem conf_eq : conf (F := Ideal) a x t = Yolo.conf (kx x) (kt t) := by
  unfold conf
  pointwise [k0_pay36, k0_pay34, objTerm, k0_pay35]
  have h := fun i n => iou_at ha x t n i
  unfold overlap at h
  simp only [Fin.sum_univ_one, pc_at, h]
  simp only [fold_pos]
  exact congrArg (half * ∑ n, pc (kx x) n * pc (kx x) n + ·) (Finset.sum_congr rfl fun n _ => if_congr Iff.rfl rfl rfl)

/-- The greatest class score of a predictor, and the class loss. -/
theorem cls_eq : cls (F := Ideal) x = Yolo.cls (kx x) := by
  unfold cls
  pointwise [k0_pay53]
  rw [Fin.sum_univ_one]
  unfold Yolo.cls
  refine Finset.sum_congr rfl fun n _ => ?_
  have e : ∀ k : Fin 20, k0_pay4 (F := Ideal) x (ix2 ⟨5 + k.val, by omega⟩ n) = kx x n ⟨k.val + 5, by omega⟩ := fun k => by
    pointwise [k0_pay4]
    exact congrArg (kx x n) (Fin.ext (Nat.add_comm _ _))
  have e5 : k0_pay4 (F := Ideal) x (ix2 5 n) = kx x n 5 := by
    pointwise [k0_pay4]
    rfl
  rw [fold_max_sup]
  simp only [e]
  rw [e5]
  rfl

end Cert.KernelIdeal.Image

end
-- ==== Proof.Sums.lean ====
/- Sums over the extended reals: the plain form of each loss against the form the reference sums. -/
module

public import proofs.«01_k».proof.Proof.Spec

@[expose] public section

noncomputable section

namespace Yolo

open Idealize.ShloMosaic

/-- A sum over rows, columns and anchors is a sum over predictors. -/
def gridEquiv : (Fin 14 × Fin 14) × Fin 5 ≃ Fin 980 where
  toFun p := ⟨p.1.1.val * 70 + p.1.2.val * 5 + p.2.val, by omega⟩
  invFun n := ((gr n, gc n), ga n)
  left_inv p := by
    refine Prod.ext (Prod.ext (Fin.ext ?_) (Fin.ext ?_)) (Fin.ext ?_) <;> simp only <;> omega
  right_inv n := Fin.ext (by simp only; omega)

theorem sum_grid {M : Type} [AddCommMonoid M] (f : Fin 14 → Fin 14 → Fin 5 → M) : ∑ r, ∑ c, ∑ a, f r c a = ∑ n, f (gr n) (gc n) (ga n) := by
  have e : ∑ n, f (gr n) (gc n) (ga n) = ∑ p : (Fin 14 × Fin 14) × Fin 5, f p.1.1 p.1.2 p.2 :=
    Fintype.sum_equiv gridEquiv.symm _ _ fun n => rfl
  rw [e, Fintype.sum_prod_type, Fintype.sum_prod_type]

/-- A sum of reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The float words as reals. -/
theorem half_eq : half = ((1 / 2 : ℝ) : EReal) := by
  simp [half, Ideal.ofBits, Ideal.ieee]; norm_cast; norm_num
theorem c2_eq : c2 = ((2 : ℝ) : EReal) := by
  simp [c2, Ideal.ofBits, Ideal.ieee]; norm_cast; norm_num

/-- The logistic function is real. -/
theorem sg_real (v : EReal) : ∃ r : ℝ, sg v = r := by
  unfold sg
  induction v using EReal.rec with
  | bot =>
    refine ⟨0, ?_⟩
    have e : (1 : EReal) + Ideal.exp (-⊥) = ⊤ := by
      rw [EReal.neg_bot]; exact EReal.add_top_of_ne_bot (by decide)
    rw [e]; unfold Ideal.div
    rw [if_neg (by decide), EReal.inv_top, mul_zero]; rfl
  | top =>
    refine ⟨1, ?_⟩
    have e : (1 : EReal) + Ideal.exp (-⊤) = ((1 : ℝ) : EReal) := by
      rw [EReal.neg_top]; exact add_zero _
    rw [e, Ideal.div_coe one_ne_zero]; simp
  | coe r =>
    have e : (1 : EReal) + Ideal.exp (-(r : EReal)) = ((1 + Real.exp (-r) : ℝ) : EReal) := by
      rw [← EReal.coe_neg, Ideal.exp_coe, EReal.coe_add]; rfl
    rw [e, Ideal.div_coe (by positivity)]
    exact ⟨_, one_mul _⟩

theorem pc_real (x : Pred) (n : Fin 980) : ∃ r : ℝ, pc x n = r := sg_real _

theorem pl_real (x : Pred) (n : Fin 980) (k : Fin 4) : ∃ r : ℝ, pl x n k = r := by
  obtain ⟨r0, h0⟩ := sg_real (x n 0)
  obtain ⟨r1, h1⟩ := sg_real (x n 1)
  obtain ⟨r2, h2⟩ := sg_real (x n 2)
  obtain ⟨r3, h3⟩ := sg_real (x n 3)
  match k with
  | 0 => exact ⟨r0, h0⟩
  | 1 => exact ⟨r1, h1⟩
  | 2 => exact ⟨r2 * (1 / 2), by rw [EReal.coe_mul, ← h2, ← half_eq]; rfl⟩
  | 3 => exact ⟨r3 * (1 / 2), by rw [EReal.coe_mul, ← h3, ← half_eq]; rfl⟩

section Loc

variable (x : Pred) (t : Boxes)

theorem sq_nonneg (a : EReal) : 0 ≤ a * a := by
  rcases le_total 0 a with h | h
  · exact mul_nonneg h h
  · exact EReal.mul_nonneg_iff.mpr (Or.inr ⟨h, h⟩)

theorem loc_nonneg : 0 ≤ loc x t :=
  Finset.sum_nonneg fun i _ => Finset.sum_nonneg fun n _ => by
    split
    · exact add_nonneg (add_nonneg (add_nonneg (sq_nonneg _) (sq_nonneg _)) (sq_nonneg _)) (sq_nonneg _)
    · exact le_rfl

theorem wins_unique {n : Fin 980} {i j : Fin 8} (hi : Wins x t i n) (hj : Wins x t j n) : i = j := by
  rcases lt_trichotomy i j with h | h | h
  · exact absurd hj.1 (hi.2 j h)
  · exact h
  · exact absurd hi.1 (hj.2 i h)

/-- Masked and summed over every predictor, with the target scattered to the winners' cells, it is the sum over the winners. -/
theorem loc_grid (M T : Fin 980 → Fin 4 → EReal) (h : ∀ i n k, Wins x t i n → M n k = 1 ∧ T n k = enc x t (row i) k)
    (h' : ∀ n k, (∀ i, ¬ Wins x t i n) → M n k = 0 ∧ T n k = 0) :
    ∑ n, ∑ k, (pl x n k * M n k - T n k * M n k) * (pl x n k * M n k - T n k * M n k) = loc x t := by
  classical
  unfold loc
  refine Eq.trans ?_ Finset.sum_comm
  refine Finset.sum_congr rfl fun n _ => ?_
  by_cases hw : ∃ i, Wins x t i n
  · obtain ⟨i, hi⟩ := hw
    rw [Finset.sum_eq_single i (fun j _ hj => if_neg fun hj' => hj (wins_unique x t hj' hi)) (fun hn => absurd (Finset.mem_univ _) hn), if_pos hi,
      Fin.sum_univ_four]
    unfold dev
    simp only [(h i n _ hi).1, (h i n _ hi).2, mul_one]
  · have hw' : ∀ i, ¬ Wins x t i n := fun i hi => hw ⟨i, hi⟩
    refine (Finset.sum_eq_zero fun k _ => ?_).trans (Finset.sum_eq_zero fun i _ => if_neg (hw' i)).symm
    rw [(h' n k hw').1, (h' n k hw').2, mul_zero, mul_zero, sub_zero, mul_zero]

end Loc

section Conf

variable (x : Pred) (t : Boxes)

open Classical in
/-- The confidence loss as a real. -/
theorem conf_coe (r : Fin 980 → ℝ) (hr : ∀ n, pc x n = r n) :
    conf x t = ((1 / 2 * ∑ n, r n * r n + ∑ n, (if Obj x t n then 1 / 2 * r n * r n - 2 * r n + 1 else 0) : ℝ) : EReal) := by
  unfold conf
  have e1 : ∑ n, pc x n * pc x n = ((∑ n, r n * r n : ℝ) : EReal) := by
    rw [← sum_coe]; exact Finset.sum_congr rfl fun n _ => by rw [hr, EReal.coe_mul]
  have e2 : (∑ n, if Obj x t n then half * pc x n * pc x n - c2 * pc x n + 1 else 0) =
      ((∑ n, (if Obj x t n then 1 / 2 * r n * r n - 2 * r n + 1 else 0) : ℝ) : EReal) := by
    rw [← sum_coe]
    refine Finset.sum_congr rfl fun n _ => ?_
    by_cases h : Obj x t n
    · rw [if_pos h, if_pos h, hr, half_eq, c2_eq, EReal.coe_add, EReal.coe_sub, EReal.coe_mul, EReal.coe_mul, EReal.coe_mul]; rfl
    · rw [if_neg h, if_neg h]; rfl
  rw [e1, e2, half_eq, EReal.coe_add, EReal.coe_mul]

open Classical in
/-- The two masked sums of squares of a batch are its images' confidence losses. -/
theorem conf_grid (X : Fin 16 → Pred) (T : Fin 16 → Boxes) (c d : Fin 16 → Fin 980 → EReal) (hc : ∀ b n, c b n = if Obj (X b) (T b) n then 1 else 0)
    (hd : ∀ b n, d b n = 1 - c b n) :
    (∑ b, ∑ n, (pc (X b) n * c b n - c b n * c b n) * (pc (X b) n * c b n - c b n * c b n)) + half * ∑ b, ∑ n, (pc (X b) n * d b n) * (pc (X b) n * d b n) =
      ∑ b, conf (X b) (T b) ∧ ∃ s : Fin 16 → ℝ, ∀ b, conf (X b) (T b) = s b := by
  choose r hr using fun b n => pc_real (X b) n
  refine ⟨?_, _, fun b => conf_coe (X b) (T b) (r b) (hr b)⟩
  have e1 : ∀ b, (∑ n, (pc (X b) n * c b n - c b n * c b n) * (pc (X b) n * c b n - c b n * c b n)) =
      ((∑ n, (if Obj (X b) (T b) n then (r b n - 1) * (r b n - 1) else 0) : ℝ) : EReal) := fun b => by
    rw [← sum_coe]
    refine Finset.sum_congr rfl fun n _ => ?_
    rw [hc, hr]
    by_cases h : Obj (X b) (T b) n
    · rw [if_pos h, if_pos h, mul_one, mul_one, EReal.coe_mul, EReal.coe_sub]; rfl
    · rw [if_neg h, if_neg h, mul_zero, mul_zero, sub_zero, mul_zero]; rfl
  have e2 : ∀ b, (∑ n, (pc (X b) n * d b n) * (pc (X b) n * d b n)) =
      ((∑ n, (if Obj (X b) (T b) n then 0 else r b n * r b n) : ℝ) : EReal) := fun b => by
    rw [← sum_coe]
    refine Finset.sum_congr rfl fun n _ => ?_
    rw [hd, hc, hr]
    by_cases h : Obj (X b) (T b) n
    · have e : (1 : EReal) - 1 = 0 := by
        have := EReal.coe_sub 1 1
        rw [sub_self] at this; exact this.symm
      rw [if_pos h, if_pos h, e, mul_zero, mul_zero]; rfl
    · rw [if_neg h, if_neg h, sub_zero, mul_one, EReal.coe_mul]
  simp only [e1, e2, conf_coe (X _) (T _) (r _) (hr _)]
  rw [sum_coe, sum_coe, sum_coe, half_eq, ← EReal.coe_mul, ← EReal.coe_add]
  refine congrArg _ ?_
  rw [Finset.mul_sum, ← Finset.sum_add_distrib]
  refine Finset.sum_congr rfl fun b _ => ?_
  rw [Finset.mul_sum, Finset.mul_sum, ← Finset.sum_add_distrib, ← Finset.sum_add_distrib]
  refine Finset.sum_congr rfl fun n _ => ?_
  by_cases h : Obj (X b) (T b) n
  · rw [if_pos h, if_pos h, if_pos h]; ring
  · rw [if_neg h, if_neg h, if_neg h]; ring

end Conf

section Cls

variable (x : Pred) (hx : ∀ n (k : Fin 20), ∃ r : ℝ, x n ⟨k.val + 5, by omega⟩ = r)
include hx

/-- With real scores, the greatest is real, and so is the logarithm of the sum of their exponentials. -/
theorem cmax_real (n : Fin 980) : ∃ r : ℝ, cmax x n = r := by
  obtain ⟨k, -, hk⟩ := Finset.exists_mem_eq_sup (Finset.univ : Finset (Fin 20)) Finset.univ_nonempty fun k : Fin 20 => x n ⟨k.val + 5, by omega⟩
  obtain ⟨r, hr⟩ := hx n k
  exact ⟨r, hk.trans hr⟩

theorem lse_real (n : Fin 980) : ∃ r : ℝ, Ideal.log (∑ k : Fin 20, Ideal.exp (x n ⟨k.val + 5, by omega⟩ - cmax x n)) = r := by
  obtain ⟨M, hM⟩ := cmax_real x hx n
  choose r hr using hx n
  have e : ∑ k : Fin 20, Ideal.exp (x n ⟨k.val + 5, by omega⟩ - cmax x n) = ((∑ k : Fin 20, Real.exp (r k - M) : ℝ) : EReal) := by
    rw [← sum_coe]
    exact Finset.sum_congr rfl fun k _ => by rw [hr, hM, ← EReal.coe_sub, Ideal.exp_coe]
  rw [e, Ideal.log_coe, if_neg (not_le.mpr (Finset.sum_pos (fun k _ => Real.exp_pos _) Finset.univ_nonempty))]
  exact ⟨_, rfl⟩

/-- A predictor's class loss is the negated log-softmax of its first class. -/
theorem cls_term (n : Fin 980) :
    -(x n 5 - cmax x n - Ideal.log (∑ k : Fin 20, Ideal.exp (x n ⟨k.val + 5, by omega⟩ - cmax x n))) =
      cmax x n + Ideal.log (∑ k : Fin 20, Ideal.exp (x n ⟨k.val + 5, by omega⟩ - cmax x n)) - x n 5 ∧
    ∃ r : ℝ, cmax x n + Ideal.log (∑ k : Fin 20, Ideal.exp (x n ⟨k.val + 5, by omega⟩ - cmax x n)) - x n 5 = r := by
  obtain ⟨M, hM⟩ := cmax_real x hx n
  obtain ⟨L, hL⟩ := lse_real x hx n
  obtain ⟨r, hr⟩ := hx n 0
  have hr' : x n 5 = r := hr
  rw [hL, hM, hr', ← EReal.coe_sub, ← EReal.coe_sub, ← EReal.coe_neg, ← EReal.coe_add, ← EReal.coe_sub]
  exact ⟨congrArg _ (by ring), _, rfl⟩

theorem cls_real : ∃ r : ℝ, cls x = r := by
  choose r hr using fun n => (cls_term x hx n).2
  exact ⟨∑ n, r n, by unfold cls; rw [← sum_coe]; exact Finset.sum_congr rfl fun n _ => hr n⟩

end Cls

/-- A class is one of the last twenty channels. -/
theorem score_lt (k : Fin 20) : k.val + 5 < 25 := Nat.add_lt_add_right k.isLt 5

/-- Sums of equal extended reals. -/
theorem sum_same {n : ℕ} (f g : Fin n → EReal) (h : ∀ i, f i = g i) : ∑ i, f i = ∑ i, g i := Finset.sum_congr rfl fun i _ => h i

/-- The class scores of a predictor, the logarithm of the sum of their exponentials above the greatest, and when all are real. -/
def score (x : Pred) (n : Fin 980) (k : Fin 20) : EReal := x n ⟨k.val + 5, score_lt k⟩
def lse (x : Pred) (n : Fin 980) : EReal := Ideal.log (∑ k, Ideal.exp (score x n k - cmax x n))
def RealScores (x : Pred) : Prop := ∀ n k, ∃ r : ℝ, score x n k = r

theorem cmax_score (x : Pred) (n : Fin 980) : cmax x n = Finset.univ.sup (score x n) := rfl

/-- With real scores, the class loss is the sum of the negated log-probabilities of class 0, and real. -/
theorem cls_log (x : Pred) (hx : RealScores x) : ∑ n, -(score x n 0 - cmax x n - lse x n) = cls x :=
  Finset.sum_congr rfl fun n _ => (cls_term x hx n).1

theorem cls_coe (x : Pred) (hx : RealScores x) : ∃ r : ℝ, cls x = r := cls_real x hx

end Yolo

end
-- ==== Proof.Ker3.lean ====
/- The kernel's accumulators after both grid points, over the arguments. -/
module

public import proofs.«01_k».proof.Proof.Ker2
public import proofs.«01_k».proof.Proof.Sums
public import Idealize.ShloMosaic.Lib.Claim

@[expose] public section

set_option maxRecDepth 16384
set_option maxHeartbeats 1000000

noncomputable section

namespace Cert.KernelIdeal.Image

open Idealize.ShloMosaic Idealize.ShloMosaic.StableHlo Idealize.ShloMosaic.TcCoe Idealize.SL.Sem Cert.KernelIdeal.Gen Yolo

variable (m : (ℓ : Loc nD τ sig) → Buf (Elt Ideal) ℓ) (c : Dev nD)

/-- The predictions and the boxes of one image of the arguments. -/
def ax (b : Fin 16) : Pred := fun n k => (m ((c.tc : Thread nD τ).loc main_arg0) : FVec Ideal S16x14x14x5x25 .f32) (ix5 b (gr n) (gc n) (ga n) k)
def at' (b : Fin 16) : Boxes := fun i k => (m ((c.tc : Thread nD τ).loc main_arg1) : FVec Ideal S16x30x5 .f32) (ix3 b i k)

/-- The block index of every window at every grid point. -/
theorem idx : ∀ t : Fin cfg0.N, win0_0.index t = ![t.val, 0, 0] ∧ win0_1.index t = ![t.val, 0, 0] ∧ win0_2.index t = ![0, 0] :=
  (by decide +kernel : ∀ t : Fin grid0.N, _)

/-- The first fourteen numbers as float words. -/
def fl : Fin 14 → BitVec 32 := ![0x00000000#32, 0x3F800000#32, 0x40000000#32, 0x40400000#32, 0x40800000#32, 0x40A00000#32, 0x40C00000#32, 0x40E00000#32, 0x41000000#32, 0x41100000#32, 0x41200000#32, 0x41300000#32, 0x41400000#32, 0x41500000#32]
theorem fl_eq (k : Fin 14) : Ideal.ofBits .f32 (fl k) = num k.val := by
  have e : num k.val = ((k.val : ℝ) : EReal) := by
    show (((BitVec.ofNat 32 k.val).toInt : ℝ) : EReal) = _
    have t14 : ∀ a : Fin 14, (BitVec.ofNat 32 a.val).toInt = a.val := by decide
    rw [t14]; push_cast; rfl
  rw [e]
  fin_cases k <;> simp [fl, Ideal.ofBits, Ideal.ieee] <;> norm_cast <;> norm_num

theorem table_lit : Table (fun i => Ideal.ofBits .f32 (lit0 (S4x980.rowMajor i))) where
  w := by
    have h : ∀ n : Fin 980, lit0 (S4x980.rowMajor (ix2 0 n)) = ![0x3FA93A93#32, 0x404C5604#32, 0x40A1C9B0#32, 0x411789B5#32, 0x4133C84B#32] (ga n) := by
      decide +kernel
    have h' : ∀ a : Fin 5, Ideal.ofBits .f32 (![0x3FA93A93#32, 0x404C5604#32, 0x40A1C9B0#32, 0x411789B5#32, 0x4133C84B#32] a) = anchW a := fun a => by
      fin_cases a <;> rfl
    exact fun n => (congrArg (Ideal.ofBits .f32) (h n)).trans (h' _)
  h := by
    have h : ∀ n : Fin 980, lit0 (S4x980.rowMajor (ix2 1 n)) = ![0x3FDDA027#32, 0x40804D55#32, 0x4101952D#32, 0x409AE59F#32, 0x41201D15#32] (ga n) := by
      decide +kernel
    have h' : ∀ a : Fin 5, Ideal.ofBits .f32 (![0x3FDDA027#32, 0x40804D55#32, 0x4101952D#32, 0x409AE59F#32, 0x41201D15#32] a) = anchH a := fun a => by
      fin_cases a <;> rfl
    exact fun n => (congrArg (Ideal.ofBits .f32) (h n)).trans (h' _)
  c := by
    have h : ∀ n : Fin 980, lit0 (S4x980.rowMajor (ix2 2 n)) = fl (gc n) := by decide +kernel
    exact fun n => (congrArg (Ideal.ofBits .f32) (h n)).trans (fl_eq _)
  r := by
    have h : ∀ n : Fin 980, lit0 (S4x980.rowMajor (ix2 3 n)) = fl (gr n) := by decide +kernel
    exact fun n => (congrArg (Ideal.ofBits .f32) (h n)).trans (fl_eq _)

theorem table (t : Fin cfg0.N) : Table (iblk m c 2 t) := by
  have e : (iblk m c 2 t : FVec Ideal S4x980 .f32) = fun i => Ideal.ofBits .f32 (lit0 (S4x980.rowMajor i)) := by
    blk_ext! [iblk, V, idx t]
  rw [e]; exact table_lit

/-- Image `k` of a grid point's eight is image `8 t + k` of the sixteen. -/
theorem image (t : Fin cfg0.N) (k : Fin 8) : 8 * t.val + k.val < 16 := by
  have : t.val < 2 := t.isLt
  omega

/-- One image's rows of the eight loaded. -/
theorem ldx_at (x : FVec Ideal S8x25x980 .f32) (k : Fin 8) (j : Fin 25) (n : Fin 980) : (ldx (F := Ideal) x k) (ix3 0 j n) = x (ix3 k j n) := by
  unfold ldx
  pointwise

theorem ldt_at (x : FVec Ideal S8x30x5 .f32) (k : Fin 8) (i : Fin 30) (j : Fin 5) : (ldt (F := Ideal) x k) (ix3 0 i j) = x (ix3 k i j) := by
  unfold ldt
  pointwise

/-- The kernel's first operand is the argument with the grid's axes in one, and the channels before it. -/
theorem flat_at (x : S16x14x14x5x25.Idx → EReal) (h : S16x14x14x5x25.ShapeCasts S16x980x25) (b : Fin 16) (n : Fin 980) (j : Fin 25) :
    shapeCast S16x980x25 x h (ix3 b n j) = x (ix5 b (gr n) (gc n) (ga n) j) := by
  refine shapeCast_apply x h _ _ ?_
  rw [Shape.rowMajor_val_five, Shape.rowMajor_val_three]
  show (((b.val * 14 + n.val / 70) * 14 + n.val / 5 % 14) * 5 + n.val % 5) * 25 + j.val = (b.val * 980 + n.val) * 25 + j.val
  omega

theorem turn_at (x : S16x980x25.Idx → EReal) (h : S16x980x25.Transposes [0, 2, 1] S16x25x980) (b : Fin 16) (n : Fin 980) (j : Fin 25) :
    transpose S16x25x980 [0, 2, 1] x h (ix3 b j n) = x (ix3 b n j) := by
  pointwise

theorem v1_eq (h : S16x14x14x5x25.ShapeCasts S16x980x25) (h' : S16x980x25.Transposes [0, 2, 1] S16x25x980) :
    (V m c main_v1 : S16x25x980.Idx → EReal) = transpose S16x25x980 [0, 2, 1]
      (shapeCast S16x980x25 (m ((c.tc : Thread nD τ).loc main_arg0) : S16x14x14x5x25.Idx → EReal) h) h' := by
  dsimp only [V, V0, hostOps0, List.flatten_cons, List.flatten_nil, List.append_nil, List.cons_append, List.nil_append]
  after_results
  rfl

theorem v1_at (b : Fin 16) (j : Fin 25) (n : Fin 980) : (V m c main_v1 : FVec Ideal S16x25x980 .f32) (ix3 b j n) = ax m c b n j :=
  (congrFun (v1_eq m c (by decide) (by decide)) _).trans ((turn_at _ _ b n j).trans (flat_at _ _ b n j))

theorem xblk_at (t : Fin cfg0.N) (k : Fin 8) (j : Fin 25) (n : Fin 980) :
    (iblk m c 0 t : FVec Ideal S8x25x980 .f32) (ix3 k j n) = ax m c ⟨8 * t.val + k.val, image t k⟩ n j := by
  have e : (iblk m c 0 t : FVec Ideal S8x25x980 .f32) (ix3 k j n) = (V m c main_v1 : FVec Ideal S16x25x980 .f32) (ix3 ⟨8 * t.val + k.val, image t k⟩ j n) := by
    blk_ext! [iblk, V, idx t]
  exact e.trans (v1_at m c _ j n)

theorem tblk_at (t : Fin cfg0.N) (k : Fin 8) (i : Fin 30) (j : Fin 5) :
    (iblk m c 1 t : FVec Ideal S8x30x5 .f32) (ix3 k i j) = at' m c ⟨8 * t.val + k.val, image t k⟩ i j := by
  unfold at'
  blk_point [iblk, V, idx t]

/-- Image `k` of a grid point's block is the argument's image `8 t + k`. -/
theorem kx_blk (t : Fin cfg0.N) (k : Fin 8) : kx (ldx (iblk m c 0 t) k) = ax m c ⟨8 * t.val + k.val, image t k⟩ :=
  funext fun n => funext fun j => (ldx_at _ k j n).trans (xblk_at m c t k j n)

theorem kt_blk (t : Fin cfg0.N) (k : Fin 8) : kt (ldt (iblk m c 1 t) k) = at' m c ⟨8 * t.val + k.val, image t k⟩ :=
  funext fun i => funext fun j => (ldt_at _ k i j).trans (tblk_at m c t k i j)

end Cert.KernelIdeal.Image

end
-- ==== Proof.Total.lean ====
/- The mean over the sixteen images, taken eight images at a time or all at once. -/
module

public import proofs.«01_k».proof.Proof.Sums

@[expose] public section

noncomputable section

namespace Yolo

open Idealize.ShloMosaic

/-- Eight numbers added pairwise. -/
def tree (f : Fin 8 → EReal) : EReal := ((f 0 + f 1) + (f 2 + f 3)) + ((f 4 + f 5) + (f 6 + f 7))

theorem tree_sum (f : Fin 8 → EReal) : tree f = ∑ k, f k := by
  unfold tree
  rw [Fin.sum_univ_eight]
  simp only [add_assoc]

/-- The first eight of sixteen, and the last eight. -/
def lower (f : Fin 16 → EReal) (k : Fin 8) : EReal := f ⟨8 * 0 + k.val, by omega⟩
def upper (f : Fin 16 → EReal) (k : Fin 8) : EReal := f ⟨8 * 1 + k.val, by omega⟩

theorem halves (f : Fin 16 → EReal) : tree (lower f) + tree (upper f) = ∑ b, f b := by
  rw [tree_sum, tree_sum]
  refine Eq.trans ?_ (Fin.sum_univ_add (a := 8) (b := 8) f).symm
  refine congrArg₂ (· + ·) (Finset.sum_congr rfl fun k _ => congrArg f (Fin.ext ?_)) (Finset.sum_congr rfl fun k _ => congrArg f (Fin.ext ?_))
  · simp
  · simp [add_comm]

/-- A weight distributes over two halves that are both nonnegative, or both real. -/
theorem accumulate (q : ℝ) (f : Fin 16 → EReal) (h : (∀ b, 0 ≤ f b) ∨ ∃ s : Fin 16 → ℝ, ∀ b, f b = s b) :
    (0 + (q : EReal) * tree (lower f)) + (q : EReal) * tree (upper f) = q * ∑ b, f b := by
  rw [zero_add, ← halves, tree_sum, tree_sum]
  rcases h with h | ⟨s, hs⟩
  · exact (EReal.left_distrib_of_nonneg (Finset.sum_nonneg fun k _ => h _) (Finset.sum_nonneg fun k _ => h _)).symm
  · have e (g : Fin 8 → Fin 16) : ∑ k, f (g k) = ((∑ k, s (g k) : ℝ) : EReal) := by
      rw [← sum_coe]; exact Finset.sum_congr rfl fun k _ => hs _
    unfold lower upper
    rw [e fun k => ⟨8 * 0 + k.val, by omega⟩, e fun k => ⟨8 * 1 + k.val, by omega⟩]
    rw [← EReal.coe_add, ← EReal.coe_mul, ← EReal.coe_mul, ← EReal.coe_mul, ← EReal.coe_add, mul_add]

theorem sixteen : Ideal.ofBits .f32 0x41800000#32 = ((16 : ℝ) : EReal) := by
  simp [Ideal.ofBits, Ideal.ieee]; norm_cast; norm_num
theorem five : Ideal.ofBits .f32 0x40A00000#32 = ((5 : ℝ) : EReal) := by
  simp [Ideal.ofBits, Ideal.ieee]; norm_cast; norm_num
theorem five16 : Ideal.ofBits .f32 0x3EA00000#32 = ((5 / 16 : ℝ) : EReal) := by
  simp [Ideal.ofBits, Ideal.ieee]; norm_cast; norm_num
theorem one16 : Ideal.ofBits .f32 0x3D800000#32 = ((1 / 16 : ℝ) : EReal) := by
  simp [Ideal.ofBits, Ideal.ieee]; norm_cast; norm_num
theorem two16 : Ideal.ofBits .f32 0x3E000000#32 = ((2 / 16 : ℝ) : EReal) := by
  simp [Ideal.ofBits, Ideal.ieee]; norm_cast; norm_num

/-- A weighted sum over sixteen is the sum at the quotient weight. -/
theorem mean (p : ℝ) (S : EReal) : Ideal.div ((p : EReal) * S) (Ideal.ofBits .f32 0x41800000#32) = ((p / 16 : ℝ) : EReal) * S := by
  rw [sixteen, Ideal.div_coe (by norm_num), mul_comm (p : EReal) S, mul_assoc, ← EReal.coe_mul, mul_comm]
  congr 2; ring

theorem mean_one (S : EReal) : Ideal.div S (Ideal.ofBits .f32 0x41800000#32) = ((1 / 16 : ℝ) : EReal) * S := by
  rw [sixteen, Ideal.div_coe (by norm_num), mul_comm]

end Yolo

end
-- ==== Proof.Ker4.lean ====
/- The kernel's three accumulators after its last grid point. -/
module

public import proofs.«01_k».proof.Proof.Ker3
public import proofs.«01_k».proof.Proof.Total

@[expose] public section

set_option maxRecDepth 16384

noncomputable section

namespace Cert.KernelIdeal.Image

open Idealize.ShloMosaic Idealize.ShloMosaic.StableHlo Idealize.ShloMosaic.TcCoe Idealize.SL.Sem Cert.KernelIdeal.Gen Yolo

section Weights

variable (v : Fin 8 → EReal) (o : FVec Ideal S1x1 .f32)

/-- A grid point adds its eight losses, weighted, to an accumulator. -/
theorem pay1_at : (k0_pay1 (F := Ideal) (v 0) (v 1) (v 2) (v 3) (v 4) (v 5) (v 6) (v 7) o) (ix2 0 0) =
    o (ix2 0 0) + Ideal.ofBits .f32 0x3EA00000#32 * tree v := by
  unfold tree; pointwise [k0_pay1]
theorem pay2_at : (k0_pay2 (F := Ideal) (v 0) (v 1) (v 2) (v 3) (v 4) (v 5) (v 6) (v 7) o) (ix2 0 0) =
    o (ix2 0 0) + Ideal.ofBits .f32 0x3D800000#32 * tree v := by
  unfold tree; pointwise [k0_pay2]
theorem pay3_at : (k0_pay3 (F := Ideal) (v 0) (v 1) (v 2) (v 3) (v 4) (v 5) (v 6) (v 7) o) (ix2 0 0) =
    o (ix2 0 0) + Ideal.ofBits .f32 0x3E000000#32 * tree v := by
  unfold tree; pointwise [k0_pay3]

end Weights

variable (m : (ℓ : Loc nD τ sig) → Buf (Elt Ideal) ℓ) (c : Dev nD)

/-- The three losses of each image of the arguments. -/
def locOf (b : Fin 16) : EReal := Yolo.loc (ax m c b) (at' m c b)
def confOf (b : Fin 16) : EReal := Yolo.conf (ax m c b) (at' m c b)
def clsOf (b : Fin 16) : EReal := Yolo.cls (ax m c b)

variable (t : Fin cfg0.N) (o : FVec Ideal S1x1 .f32)

theorem locs_at : (locs (F := Ideal) (iblk m c 2 t) (iblk m c 0 t) (iblk m c 1 t) o) (ix2 0 0) =
    o (ix2 0 0) + Ideal.ofBits .f32 0x3EA00000#32 * tree fun k => locOf m c ⟨8 * t.val + k.val, image t k⟩ := by
  refine (pay1_at (fun k => loc (F := Ideal) (iblk m c 2 t) (ldx (iblk m c 0 t) k) (ldt (iblk m c 1 t) k)) o).trans ?_
  refine congrArg (fun f => o (ix2 0 0) + Ideal.ofBits .f32 0x3EA00000#32 * tree f) (funext fun k => ?_)
  exact (loc_eq (table m c t) _ _).trans (by rw [kx_blk, kt_blk]; rfl)

theorem confs_at : (confs (F := Ideal) (iblk m c 2 t) (iblk m c 0 t) (iblk m c 1 t) o) (ix2 0 0) =
    o (ix2 0 0) + Ideal.ofBits .f32 0x3D800000#32 * tree fun k => confOf m c ⟨8 * t.val + k.val, image t k⟩ := by
  refine (pay2_at (fun k => conf (F := Ideal) (iblk m c 2 t) (ldx (iblk m c 0 t) k) (ldt (iblk m c 1 t) k)) o).trans ?_
  refine congrArg (fun f => o (ix2 0 0) + Ideal.ofBits .f32 0x3D800000#32 * tree f) (funext fun k => ?_)
  exact (conf_eq (table m c t) _ _).trans (by rw [kx_blk, kt_blk]; rfl)

theorem clss_at : (clss (F := Ideal) (iblk m c 0 t) o) (ix2 0 0) =
    o (ix2 0 0) + Ideal.ofBits .f32 0x3E000000#32 * tree fun k => clsOf m c ⟨8 * t.val + k.val, image t k⟩ := by
  refine (pay3_at (fun k => cls (F := Ideal) (ldx (iblk m c 0 t) k)) o).trans ?_
  refine congrArg (fun f => o (ix2 0 0) + Ideal.ofBits .f32 0x3E000000#32 * tree f) (funext fun k => ?_)
  exact (cls_eq _).trans (by rw [kx_blk]; rfl)

theorem zero_word : Ideal.ofBits .f32 0x00000000#32 = 0 := by
  simp [Ideal.ofBits, Ideal.ieee]

/-- The one index of an accumulator. -/
theorem only (j : S1x1.Idx) : j = ix2 0 0 := by
  funext a
  match a with
  | ⟨0, _⟩ => exact Subsingleton.elim (α := Fin 1) _ _
  | ⟨1, _⟩ => exact Subsingleton.elim (α := Fin 1) _ _

/-- The two grid points. -/
def first : Fin cfg0.N := ⟨0, by decide⟩
def last : Fin cfg0.N := ⟨1, by decide⟩

/-- The point before the last is the first. -/
theorem before (h : last.val - 1 < cfg0.N) : outsAt0 m c (last.val - 1) h = outsAt0 m c first.val first.isLt := by
  have e : ∀ k (h : k < cfg0.N), k = first.val → outsAt0 m c k h = outsAt0 m c first.val first.isLt := fun k h e => by subst e; rfl
  exact e _ _ rfl

theorem both {A B : EReal} (q : ℝ) (f : Fin 16 → EReal)
    (h0 : A = 0 + (q : EReal) * tree fun k => f ⟨8 * first.val + k.val, image first k⟩)
    (h1 : B = A + (q : EReal) * tree fun k => f ⟨8 * last.val + k.val, image last k⟩)
    (h : (∀ b, 0 ≤ f b) ∨ ∃ s : Fin 16 → ℝ, ∀ b, f b = s b) : B = q * ∑ b, f b := by
  rw [h1, h0]
  exact accumulate q f h

/-- The accumulators after the last point: the weighted sums over all sixteen images. -/
theorem loc_out (j : S1x1.Idx) :
    ((outsAt0 m c (last).val last.isLt).1 : FVec Ideal S1x1 .f32) j = ((5 / 16 : ℝ) : EReal) * ∑ b, locOf m c b := by
  have h1 := congrFun (loc_next m c last (by decide)) (ix2 0 0)
  have h0 := congrFun (loc_first m c first (by decide)) (ix2 0 0)
  rw [locs_at, five16] at h1 h0
  rw [before] at h1
  rw [zero_word] at h0
  rw [only j]
  exact both _ _ h0 h1 (Or.inl fun b => loc_nonneg _ _)

theorem conf_out (hs : ∃ s : Fin 16 → ℝ, ∀ b, confOf m c b = s b) (j : S1x1.Idx) :
    ((outsAt0 m c (last).val last.isLt).2.1 : FVec Ideal S1x1 .f32) j = ((1 / 16 : ℝ) : EReal) * ∑ b, confOf m c b := by
  have h1 := congrFun (conf_next m c last (by decide)) (ix2 0 0)
  have h0 := congrFun (conf_first m c first (by decide)) (ix2 0 0)
  rw [confs_at, one16] at h1 h0
  rw [before] at h1
  rw [zero_word] at h0
  rw [only j]
  exact both _ _ h0 h1 (Or.inr hs)

theorem cls_out (hs : ∃ s : Fin 16 → ℝ, ∀ b, clsOf m c b = s b) (j : S1x1.Idx) :
    ((outsAt0 m c (last).val last.isLt).2.2 : FVec Ideal S1x1 .f32) j = ((2 / 16 : ℝ) : EReal) * ∑ b, clsOf m c b := by
  have h1 := congrFun (cls_next m c last (by decide)) (ix2 0 0)
  have h0 := congrFun (cls_first m c first (by decide)) (ix2 0 0)
  rw [clss_at, two16] at h1 h0
  rw [before] at h1
  rw [zero_word] at h0
  rw [only j]
  exact both _ _ h0 h1 (Or.inr hs)

/-- The three output arrays. -/
theorem loc_arr : (dats m 0 c).arrAt 3 cfg0.N = fun _ => ((5 / 16 : ℝ) : EReal) * ∑ b, locOf m c b := by
  refine (dats m 0 c).arrAt_eq_of_after_last 3 last (by decide +kernel) _ fun j => ?_
  blk_simp
  rw [after0_3]
  exact loc_out m c j

theorem conf_arr (hs : ∃ s : Fin 16 → ℝ, ∀ b, confOf m c b = s b) :
    (dats m 0 c).arrAt 4 cfg0.N = fun _ => ((1 / 16 : ℝ) : EReal) * ∑ b, confOf m c b := by
  refine (dats m 0 c).arrAt_eq_of_after_last 4 last (by decide +kernel) _ fun j => ?_
  blk_simp
  rw [after0_4]
  exact conf_out m c hs j

theorem cls_arr (hs : ∃ s : Fin 16 → ℝ, ∀ b, clsOf m c b = s b) :
    (dats m 0 c).arrAt 5 cfg0.N = fun _ => ((2 / 16 : ℝ) : EReal) * ∑ b, clsOf m c b := by
  refine (dats m 0 c).arrAt_eq_of_after_last 5 last (by decide +kernel) _ fun j => ?_
  blk_simp
  rw [after0_5]
  exact cls_out m c hs j

end Cert.KernelIdeal.Image

end
-- ==== Proof.Tail.lean ====
/- The kernel's four results, read from its accumulators. -/
module

public import proofs.«01_k».proof.Proof.Ker4
public import Idealize.ShloMosaic.Lib.Claim

@[expose] public section

set_option maxRecDepth 16384

noncomputable section

namespace Cert.KernelIdeal.Image

open Idealize.ShloMosaic Idealize.ShloMosaic.StableHlo Idealize.ShloMosaic.TcCoe Idealize.SL.Sem Cert.KernelIdeal.Gen Yolo

section Lines

variable (U : Valuation τ sig (Elt Ideal)) (A B C : EReal)
  (hA : (U (Proc.devRef .tc main_v2_0) : FVec Ideal S1x1 .f32) = fun _ => A)
  (hB : (U (Proc.devRef .tc main_v2_1) : FVec Ideal S1x1 .f32) = fun _ => B)
  (hC : (U (Proc.devRef .tc main_v2_2) : FVec Ideal S1x1 .f32) = fun _ => C)

include hA in
theorem line_v3 : (after (List.flatten [hostOps1]) U (Proc.devRef .tc main_v3) : FVec Ideal S_ .f32) = fun _ => A := by
  dsimp only [hostOps1, List.flatten_cons, List.flatten_nil, List.append_nil, List.cons_append, List.nil_append]
  after_results
  rw [hA]
  rfl

include hB in
theorem line_v4 : (after (List.flatten [hostOps1]) U (Proc.devRef .tc main_v4) : FVec Ideal S_ .f32) = fun _ => B := by
  dsimp only [hostOps1, List.flatten_cons, List.flatten_nil, List.append_nil, List.cons_append, List.nil_append]
  after_results
  rw [hB]
  rfl

include hC in
theorem line_v5 : (after (List.flatten [hostOps1]) U (Proc.devRef .tc main_v5) : FVec Ideal S_ .f32) = fun _ => C := by
  dsimp only [hostOps1, List.flatten_cons, List.flatten_nil, List.append_nil, List.cons_append, List.nil_append]
  after_results
  rw [hC]
  rfl

include hA hB hC in
theorem line_v7 : (after (List.flatten [hostOps1]) U (Proc.devRef .tc main_v7) : FVec Ideal S_ .f32) = fun _ => A + B + C := by
  dsimp only [hostOps1, List.flatten_cons, List.flatten_nil, List.append_nil, List.cons_append, List.nil_append]
  after_results
  rw [hA, hB, hC]
  rfl

end Lines

variable (m : (ℓ : Loc nD τ sig) → Buf (Elt Ideal) ℓ) (c : Dev nD)

/-- What a buffer holds when the program ends. -/
abbrev ends (b : Ref sig .tc) := Pipeline.afterTail₀ cfgs (dats m) 0 (V0 m) [hostOps1] c b

theorem arrays_apart : Function.Injective (Pipeline.arrRef spec0) := by decide

/-- An output array as the lines after the region find it. -/
theorem found (w : Fin 6) : Pipeline.withArrays spec0 c (V0 m c) (fun w => (dats m 0 c).arrAt w cfg0.N) (Proc.devRef .tc (Pipeline.arrRef spec0 w)) =
    (dats m 0 c).arrAt w cfg0.N := Pipeline.withArrays_arr spec0 arrays_apart c _ _ w

variable (hconf : ∃ s : Fin 16 → ℝ, ∀ b, confOf m c b = s b) (hcls : ∃ s : Fin 16 → ℝ, ∀ b, clsOf m c b = s b)

theorem end_v3 : (ends m c main_v3 : FVec Ideal S_ .f32) = fun _ => ((5 / 16 : ℝ) : EReal) * ∑ b, locOf m c b :=
  line_v3 _ _ ((found m c 3).trans (loc_arr m c))

include hconf in
theorem end_v4 : (ends m c main_v4 : FVec Ideal S_ .f32) = fun _ => ((1 / 16 : ℝ) : EReal) * ∑ b, confOf m c b :=
  line_v4 _ _ ((found m c 4).trans (conf_arr m c hconf))

include hcls in
theorem end_v5 : (ends m c main_v5 : FVec Ideal S_ .f32) = fun _ => ((2 / 16 : ℝ) : EReal) * ∑ b, clsOf m c b :=
  line_v5 _ _ ((found m c 5).trans (cls_arr m c hcls))

include hconf hcls in
theorem end_v7 : (ends m c main_v7 : FVec Ideal S_ .f32) = fun _ => ((5 / 16 : ℝ) : EReal) * ∑ b, locOf m c b +
    ((1 / 16 : ℝ) : EReal) * ∑ b, confOf m c b + ((2 / 16 : ℝ) : EReal) * ∑ b, clsOf m c b :=
  line_v7 _ _ _ _ ((found m c 3).trans (loc_arr m c)) ((found m c 4).trans (conf_arr m c hconf)) ((found m c 5).trans (cls_arr m c hcls))

end Cert.KernelIdeal.Image

end
-- ==== Proof.Ref1.lean ====
/- The reference's intermediate arrays at an index, up to the intersection over union. -/
module

public import proofs.«01_k».proof.Proof.RefLine
public import proofs.«01_k».proof.Proof.Spec
public import Idealize.ShloMosaic.Lib.Pointwise
public import Idealize.ShloMosaic.Lib.Pipeline.ValueKit

@[expose] public section

set_option maxRecDepth 16384
set_option maxHeartbeats 1000000

noncomputable section

namespace Cert.ReferenceIdeal.Line

open Idealize.ShloMosaic Idealize.ShloMosaic.StableHlo Idealize.ShloMosaic.TcCoe Idealize.SL.Sem Cert.Lines Yolo

variable (m : (ℓ : Loc nD τ sig) → Buf (Elt Ideal) ℓ) (c : Dev nD)

/-- The predictions and the boxes of one image of the arguments. -/
def px (b : Fin 16) : Pred := fun n k => (fin m c main_arg0 : FVec Ideal S16x14x14x5x25 .f32) (ix5 b (gr n) (gc n) (ga n) k)
def bt (b : Fin 16) : Boxes := fun i k => (fin m c main_arg1 : FVec Ideal S16x30x5 .f32) (ix3 b i k)

variable (b : Fin 16) (i : Fin 30) (n : Fin 980)

/-- The four predicted coordinates. -/
theorem pl0_at : (fin m c main_v16 : FVec Ideal S16x14x14x5x4 .f32) (ix5 b (gr n) (gc n) (ga n) 0) = sg (px m c b n 0) := by
  have h := Eqns.seg (eqn0 m c) 0 23
  dsimp only [part0, List.drop, List.take, Eqns, Step.Eqn, Step.out, Step.val] at h
  simp only [h]; pointwise; rfl

theorem pl1_at : (fin m c main_v16 : FVec Ideal S16x14x14x5x4 .f32) (ix5 b (gr n) (gc n) (ga n) 1) = sg (px m c b n 1) := by
  have h := Eqns.seg (eqn0 m c) 0 23
  dsimp only [part0, List.drop, List.take, Eqns, Step.Eqn, Step.out, Step.val] at h
  simp only [h]; pointwise; rfl

theorem pl2_at : (fin m c main_v16 : FVec Ideal S16x14x14x5x4 .f32) (ix5 b (gr n) (gc n) (ga n) 2) = sg (px m c b n 2) * half := by
  have h := Eqns.seg (eqn0 m c) 0 23
  dsimp only [part0, List.drop, List.take, Eqns, Step.Eqn, Step.out, Step.val] at h
  simp only [h]; pointwise; rfl

theorem pl3_at : (fin m c main_v16 : FVec Ideal S16x14x14x5x4 .f32) (ix5 b (gr n) (gc n) (ga n) 3) = sg (px m c b n 3) * half := by
  have h := Eqns.seg (eqn0 m c) 0 23
  dsimp only [part0, List.drop, List.take, Eqns, Step.Eqn, Step.out, Step.val] at h
  simp only [h]; pointwise; rfl

theorem pc_at : (fin m c main_v24 : FVec Ideal S16x14x14x5 .f32) (ix4 b (gr n) (gc n) (ga n)) = pc (px m c b) n := by
  have h := Eqns.seg (eqn0 m c) 0 33
  dsimp only [part0, List.drop, List.take, Eqns, Step.Eqn, Step.out, Step.val] at h
  simp only [h]; pointwise; rfl

/-- The table of anchors, by column. -/
theorem anchW_lit (a : Fin 5) : Ideal.ofBits .f32 (lit0 (S5x2.rowMajor (ix2 a 0))) = anchW a := by fin_cases a <;> rfl
theorem anchH_lit (a : Fin 5) : Ideal.ofBits .f32 (lit0 (S5x2.rowMajor (ix2 a 1))) = anchH a := by fin_cases a <;> rfl

/-- The predicted box: centre and size. -/
theorem gx_at : (fin m c main_v33 : FVec Ideal S16x14x14x5 .f32) (ix4 b (gr n) (gc n) (ga n)) = bx (px m c b) n := by
  have h := Eqns.seg (eqn0 m c) 0 10
  have h' := Eqns.seg (eqn0 m c) 34 9
  dsimp only [part0, List.drop, List.take, Eqns, Step.Eqn, Step.out, Step.val] at h h'
  rw [bx_eq]; simp only [h, h']; pointwise; unfold px; with_reducible rfl

theorem gy_at : (fin m c main_v40 : FVec Ideal S16x14x14x5 .f32) (ix4 b (gr n) (gc n) (ga n)) = by' (px m c b) n := by
  have h := Eqns.seg (eqn0 m c) 0 10
  have h' := Eqns.seg (eqn0 m c) 34 1
  have h'' := Eqns.seg (eqn0 m c) 43 8
  dsimp only [part0, List.drop, List.take, Eqns, Step.Eqn, Step.out, Step.val] at h h' h''
  rw [by_eq]; simp only [h, h', h'']; pointwise; unfold px; with_reducible rfl

theorem gw_at : (fin m c main_v50 : FVec Ideal S16x14x14x5 .f32) (ix4 b (gr n) (gc n) (ga n)) = bw (px m c b) n := by
  have h := Eqns.seg (eqn0 m c) 0 1
  have h' := Eqns.seg (eqn0 m c) 7 15
  have h'' := Eqns.seg (eqn0 m c) 51 9
  have h''' := Eqns.seg (eqn1 m c) 0 2
  dsimp only [part0, part1, List.drop, List.take, Eqns, Step.Eqn, Step.out, Step.val] at h h' h'' h'''
  rw [bw_eq]; simp only [h, h', h'', h''']; pointwise; rw [anchW_lit]; unfold px; with_reducible rfl

theorem gh_at : (fin m c main_v60 : FVec Ideal S16x14x14x5 .f32) (ix4 b (gr n) (gc n) (ga n)) = bh (px m c b) n := by
  have h := Eqns.seg (eqn0 m c) 0 1
  have h' := Eqns.seg (eqn0 m c) 7 15
  have h'' := Eqns.seg (eqn1 m c) 2 11
  dsimp only [part0, part1, List.drop, List.take, Eqns, Step.Eqn, Step.out, Step.val] at h h' h''
  rw [bh_eq]; simp only [h, h', h'']; pointwise; rw [anchH_lit]; unfold px; with_reducible rfl

theorem box0_at : (fin m c main_v66 : FVec Ideal S16x980x4 .f32) (ix3 b n 0) = bx (px m c b) n := by
  have h := Eqns.seg (eqn1 m c) 13 6
  dsimp only [part1, List.drop, List.take, Eqns, Step.Eqn, Step.out, Step.val] at h
  rw [← gx_at]; simp only [h]; pointwise; simp only [h, Matrix.cons_val]; pointwise

theorem box1_at : (fin m c main_v66 : FVec Ideal S16x980x4 .f32) (ix3 b n 1) = by' (px m c b) n := by
  have h := Eqns.seg (eqn1 m c) 13 6
  dsimp only [part1, List.drop, List.take, Eqns, Step.Eqn, Step.out, Step.val] at h
  rw [← gy_at]; simp only [h]; pointwise; simp only [h, Matrix.cons_val]; pointwise

theorem box2_at : (fin m c main_v66 : FVec Ideal S16x980x4 .f32) (ix3 b n 2) = bw (px m c b) n := by
  have h := Eqns.seg (eqn1 m c) 13 6
  dsimp only [part1, List.drop, List.take, Eqns, Step.Eqn, Step.out, Step.val] at h
  rw [← gw_at]; simp only [h]; pointwise; simp only [h, Matrix.cons_val]; pointwise

theorem box3_at : (fin m c main_v66 : FVec Ideal S16x980x4 .f32) (ix3 b n 3) = bh (px m c b) n := by
  have h := Eqns.seg (eqn1 m c) 13 6
  dsimp only [part1, List.drop, List.take, Eqns, Step.Eqn, Step.out, Step.val] at h
  rw [← gh_at]; simp only [h]; pointwise; simp only [h, Matrix.cons_val]; pointwise

theorem gt_at (k : Fin 4) :
    (fin m c main_v89 : FVec Ideal S16x30x4 .f32) (ix3 b i k) = ![cx (bt m c b) i, cy (bt m c b) i, bt m c b i 2, bt m c b i 3] k := by
  have h := Eqns.seg (eqn1 m c) 19 26
  dsimp only [part1, List.drop, List.take, Eqns, Step.Eqn, Step.out, Step.val] at h
  fin_cases k <;> (simp only [h]; pointwise) <;> simp only [h] <;> pointwise
  all_goals rfl

/-- The true corners. -/
theorem gx1_at : (fin m c main_v100 : FVec Ideal S16x30 .f32) (ix2 b i) = gx1 (bt m c b) i := by
  have h := Eqns.seg (eqn1 m c) 49 11
  dsimp only [part1, List.drop, List.take, Eqns, Step.Eqn, Step.out, Step.val] at h
  simp only [h]; pointwise; rw [gt_at, gt_at]; rfl

theorem gy1_at : (fin m c main_v107 : FVec Ideal S16x30 .f32) (ix2 b i) = gy1 (bt m c b) i := by
  have h := Eqns.seg (eqn1 m c) 49 11
  have h' := Eqns.seg (eqn2 m c) 0 5
  dsimp only [part1, part2, List.drop, List.take, Eqns, Step.Eqn, Step.out, Step.val] at h h'
  simp only [h, h']; pointwise; rw [gt_at, gt_at]; rfl

theorem gx2_at : (fin m c main_v114 : FVec Ideal S16x30 .f32) (ix2 b i) = gx2 (bt m c b) i := by
  have h := Eqns.seg (eqn2 m c) 5 16
  dsimp only [part2, List.drop, List.take, Eqns, Step.Eqn, Step.out, Step.val] at h
  simp only [h]; pointwise; rw [gt_at, gt_at]; rfl

theorem gy2_at : (fin m c main_v121 : FVec Ideal S16x30 .f32) (ix2 b i) = gy2 (bt m c b) i := by
  have h := Eqns.seg (eqn2 m c) 5 16
  dsimp only [part2, List.drop, List.take, Eqns, Step.Eqn, Step.out, Step.val] at h
  simp only [h]; pointwise; rw [gt_at, gt_at]; rfl

/-- The predicted corners. -/
theorem px1_at : (fin m c main_v128 : FVec Ideal S16x980 .f32) (ix2 b n) = px1 (px m c b) n := by
  have h := Eqns.seg (eqn2 m c) 21 16
  dsimp only [part2, List.drop, List.take, Eqns, Step.Eqn, Step.out, Step.val] at h
  simp only [h]; pointwise; rw [box0_at, box2_at]; rfl

theorem py1_at : (fin m c main_v135 : FVec Ideal S16x980 .f32) (ix2 b n) = py1 (px m c b) n := by
  have h := Eqns.seg (eqn2 m c) 21 16
  dsimp only [part2, List.drop, List.take, Eqns, Step.Eqn, Step.out, Step.val] at h
  simp only [h]; pointwise; rw [box1_at, box3_at]; rfl

theorem px2_at : (fin m c main_v142 : FVec Ideal S16x980 .f32) (ix2 b n) = px2 (px m c b) n := by
  have h := Eqns.seg (eqn2 m c) 37 16
  dsimp only [part2, List.drop, List.take, Eqns, Step.Eqn, Step.out, Step.val] at h
  simp only [h]; pointwise; rw [box0_at, box2_at]; rfl

theorem py2_at : (fin m c main_v149 : FVec Ideal S16x980 .f32) (ix2 b n) = py2 (px m c b) n := by
  have h := Eqns.seg (eqn2 m c) 37 16
  dsimp only [part2, List.drop, List.take, Eqns, Step.Eqn, Step.out, Step.val] at h
  simp only [h]; pointwise; rw [box1_at, box3_at]; rfl

theorem inter_at : (fin m c main_v176 : FVec Ideal S16x30x980 .f32) (ix3 b i n) = inter (px m c b) (bt m c b) i n := by
  have h := Eqns.seg (eqn2 m c) 53 7
  have h' := Eqns.seg (eqn3 m c) 0 22
  dsimp only [part2, part3, List.drop, List.take, Eqns, Step.Eqn, Step.out, Step.val] at h h'
  simp only [h, h']; pointwise; rw [gx1_at, gx2_at, gy1_at, gy2_at, px1_at, px2_at, py1_at, py2_at]; rfl

theorem iou_at : (fin m c main_v191 : FVec Ideal S16x30x980 .f32) (ix3 b i n) = iou (px m c b) (bt m c b) i n := by
  have h := Eqns.seg (eqn3 m c) 22 16
  dsimp only [part3, List.drop, List.take, Eqns, Step.Eqn, Step.out, Step.val] at h
  simp only [h]; pointwise; rw [gx1_at, gx2_at, gy1_at, gy2_at, px1_at, px2_at, py1_at, py2_at, inter_at]; rfl

/-- Whether a box counts. -/
theorem valid_at : (fin m c main_v93 : IVec S16x30 1) (ix2 b i) = if half < bt m c b i 4 then 1#1 else 0#1 := by
  have h := Eqns.seg (eqn1 m c) 44 5
  dsimp only [part1, List.drop, List.take, Eqns, Step.Eqn, Step.out, Step.val] at h
  simp only [h]; pointwise
  change BitVec.ofBool (decide (half < bt m c b i 4)) = _
  by_cases hv : half < bt m c b i 4 <;> simp [hv]

/-- The overlap, with the boxes that do not count set to nothing. -/
theorem masked_at : (fin m c main_v195 : FVec Ideal S16x30x980 .f32) (ix3 b i n)
    = iou (px m c b) (bt m c b) i n * (if half < bt m c b i 4 then 1 else 0) := by
  have h := Eqns.seg (eqn3 m c) 38 4
  dsimp only [part3, List.drop, List.take, Eqns, Step.Eqn, Step.out, Step.val] at h
  simp only [h]; pointwise
  rw [iou_at, valid_at]
  clear h
  split_ifs
  · exact congrArg (iou (px m c b) (bt m c b) i n * ·) (by simp [FloatOps.uitofp])
  · exact congrArg (iou (px m c b) (bt m c b) i n * ·) (by simp [FloatOps.uitofp])

end Cert.ReferenceIdeal.Line

end
-- ==== Proof.Ref2.lean ====
/- The reference's best predictor of each box, and whether a predictor holds an object. -/
module

public import proofs.«01_k».proof.Proof.Ref1
public import proofs.«01_k».proof.Proof.Words

@[expose] public section

set_option maxRecDepth 16384
set_option maxHeartbeats 1000000

noncomputable section

namespace Cert.ReferenceIdeal.Line

open Idealize.ShloMosaic Idealize.ShloMosaic.StableHlo Idealize.ShloMosaic.TcCoe Idealize.SL.Sem Cert.Lines Yolo

/-- The reducer keeps the greater value, and of equal values the one of lesser index. -/
theorem reducer_eq (p q : EReal × BitVec 32) : reducer_argmax_f32_i32 (F := Ideal) p q =
    if q.1 < p.1 ∨ (p.1 = q.1 ∧ p.2.toInt < q.2.toInt) then p else q := by
  obtain ⟨a, i⟩ := p
  obtain ⟨b, j⟩ := q
  unfold reducer_argmax_f32_i32
  by_cases h1 : b < a
  · simp [Ideal.cmpf_def, Ideal.cmp, IntOp.ori, IntOp.andi, Scalar.select, h1, h1.ne']
  · by_cases h2 : a = b
    · by_cases h3 : i.toInt < j.toInt
      · simp [Ideal.cmpf_def, Ideal.cmp, IntOp.ori, IntOp.andi, IntOp.cmpi, Scalar.select, h2, h3, BitVec.slt]
      · simp [Ideal.cmpf_def, Ideal.cmp, IntOp.ori, IntOp.andi, IntOp.cmpi, Scalar.select, h2, h3, BitVec.slt]
    · simp [Ideal.cmpf_def, Ideal.cmp, IntOp.ori, IntOp.andi, IntOp.cmpi, Scalar.select, h1, h2]

/-- What the fold holds after a list of entries: at least every entry met, and the first such. -/
theorem argmax_inv (f : Fin 980 → EReal) {ι : Type} (κ : ι → Fin 980) (l : List ι) (p : EReal × BitVec 32)
    (hp : p = (⊥, 0#32) ∨ ∃ k : Fin 980, p = (f k, BitVec.ofNat 32 k.val)) (s : Fin 980 → Prop)
    (hs : ∀ k, s k → f k < p.1 ∨ (f k = p.1 ∧ p.2.toInt ≤ k.val)) :
    (l.foldl (fun r e => reducer_argmax_f32_i32 (F := Ideal) r (f (κ e), BitVec.ofNat 32 (κ e).val)) p = (⊥, 0#32) ∨
      ∃ k : Fin 980, l.foldl (fun r e => reducer_argmax_f32_i32 (F := Ideal) r (f (κ e), BitVec.ofNat 32 (κ e).val)) p = (f k, BitVec.ofNat 32 k.val)) ∧
    ∀ k, (s k ∨ ∃ e ∈ l, κ e = k) →
      f k < (l.foldl (fun r e => reducer_argmax_f32_i32 (F := Ideal) r (f (κ e), BitVec.ofNat 32 (κ e).val)) p).1 ∨
      (f k = (l.foldl (fun r e => reducer_argmax_f32_i32 (F := Ideal) r (f (κ e), BitVec.ofNat 32 (κ e).val)) p).1 ∧
        (l.foldl (fun r e => reducer_argmax_f32_i32 (F := Ideal) r (f (κ e), BitVec.ofNat 32 (κ e).val)) p).2.toInt ≤ k.val) := by
  induction l generalizing p s with
  | nil => exact ⟨hp, fun k hk => hs k (hk.resolve_right (by simp))⟩
  | cons e l ih =>
    have hstep := ih (reducer_argmax_f32_i32 (F := Ideal) p (f (κ e), BitVec.ofNat 32 (κ e).val)) ?_ (fun k => s k ∨ k = κ e) ?_
    · refine ⟨hstep.1, fun k hk => hstep.2 k ?_⟩
      rcases hk with hk | ⟨d, hd, hk⟩
      · exact Or.inl (Or.inl hk)
      · rcases List.mem_cons.mp hd with rfl | hd
        · exact Or.inl (Or.inr hk.symm)
        · exact Or.inr ⟨d, hd, hk⟩
    · rw [reducer_eq]; split
      · exact hp
      · exact Or.inr ⟨κ e, rfl⟩
    · intro k hk
      rw [reducer_eq]
      split
      · rename_i hc
        rcases hk with hk | rfl
        · exact hs k hk
        · rcases hc with hc | ⟨hc, hlt⟩
          · exact Or.inl hc
          · exact Or.inr ⟨hc.symm, by rw [toInt_980] at hlt; omega⟩
      · rename_i hc
        push Not at hc
        obtain ⟨h1, h2⟩ := hc
        rcases hk with hk | rfl
        · rcases hs k hk with h | ⟨h, hle⟩
          · exact Or.inl (lt_of_lt_of_le h h1)
          · rcases lt_or_eq_of_le h1 with hlt | heq
            · exact Or.inl (h ▸ hlt)
            · exact Or.inr ⟨h.trans heq, (h2 heq).trans hle⟩
        · exact Or.inr ⟨rfl, by rw [toInt_980]⟩

/-- Over all the predictors it is the first greatest one. -/
theorem argmax_foldl (f : Fin 980 → EReal) {ι : Type} (κ : ι → Fin 980) (l : List ι) (hl : ∀ k, ∃ e ∈ l, κ e = k) :
    (l.foldl (fun r e => reducer_argmax_f32_i32 (F := Ideal) r (f (κ e), BitVec.ofNat 32 (κ e).val)) (⊥, 0#32)).2 = BitVec.ofNat 32 (firstMax f).val := by
  obtain ⟨h1, h2⟩ := argmax_inv f κ l (⊥, 0#32) (Or.inl rfl) (fun _ => False) (fun _ h => h.elim)
  have h3 := fun k => h2 k (Or.inr (hl k))
  generalize l.foldl (fun r e => reducer_argmax_f32_i32 (F := Ideal) r (f (κ e), BitVec.ofNat 32 (κ e).val)) (⊥, 0#32) = p at h1 h3
  rcases h1 with rfl | ⟨k, rfl⟩
  · have hb : ∀ k, f k = ⊥ := fun k => (h3 k).elim (fun h => absurd h not_lt_bot) (·.1)
    rw [firstMax_eq (f := f) (n := 0) (fun j => by rw [hb, hb]) (fun j hj => absurd hj (Fin.not_lt_zero j))]
    rfl
  · rw [firstMax_eq (f := f) (n := k) (fun j => (h3 j).elim le_of_lt fun h => le_of_eq h.1) (fun j hj => ?_)]
    rcases h3 j with h | ⟨_, h⟩
    · exact h
    · rw [toInt_980] at h
      rw [Fin.lt_def] at hj
      omega

variable (m : (ℓ : Loc nD τ sig) → Buf (Elt Ideal) ℓ) (c : Dev nD) (b : Fin 16) (i : Fin 30) (n : Fin 980)

/-- The first greatest overlap of each box. -/
theorem argmax_at : (fin m c main_v203 : IVec S16x30 32) (ix2 b i) =
    BitVec.ofNat 32 (firstMax fun n => (fin m c main_v195 : FVec Ideal S16x30x980 .f32) (ix3 b i n)).val := by
  have hR : S16x30x980.ReducesTo [2] S16x30 := by decide
  have hS : 0 < S_.numel := by decide
  have e : (fin m c main_v203 : IVec S16x30 32) (ix2 b i) =
      (Host.argReduce reducer_argmax_f32_i32 (fin m c main_v195 : FVec Ideal S16x30x980 .f32) (iotaInDim S16x30x980 32 2)
        (constant (F := Ideal) S_ .f32 0xFF800000#32) (constantI S_ 32 0#32) hR hS (ix2 b i)).2 := by
    have h := Eqns.seg (eqn3 m c) 52 5
    dsimp only [part3, List.cons_append, List.nil_append, List.drop, List.take, Eqns, Step.Eqn, Step.out, Step.val] at h
    simp only [TRef.toBuf, TRef.ofBuf, cast_eq] at h
    simp only [h]
  rw [e, Ideal.argReduce_eq_reduce2]
  clear e
  generalize (fin m c main_v195 : FVec Ideal S16x30x980 .f32) = f
  have hd : ∀ (d : S16x30x980.Idx), hR.drop d = ix2 b i ↔ ∃ k : Fin 980, d = ix3 b i k := by
    intro d
    constructor
    · intro hd
      refine ⟨d 2, funext fun a => ?_⟩
      have h0 : d 0 = b := congrFun hd 0
      have h1 : d 1 = i := congrFun hd 1
      fin_cases a
      · exact h0
      · exact h1
      · rfl
    · rintro ⟨k, rfl⟩
      funext a
      fin_cases a <;> rfl
  unfold Host.reduce2
  rw [List.foldl_ext (g := fun r e => reducer_argmax_f32_i32 (F := Ideal) r
    (f (ix3 b i (S16x30x980.rowMajor.symm e 2)), BitVec.ofNat 32 (S16x30x980.rowMajor.symm e 2).val))]
  · rw [show ((constant (F := Ideal) S_ .f32 0xFF800000#32 : FVec Ideal S_ .f32) (Shape.Idx.first hS), (constantI S_ 32 0#32) (Shape.Idx.first hS)) = ((⊥ : EReal), 0#32) from
      Prod.ext ofBits_negInf rfl]
    refine argmax_foldl (fun n => f (ix3 b i n)) (fun e => S16x30x980.rowMajor.symm e 2) _ fun k => ⟨S16x30x980.rowMajor (ix3 b i k), ?_, ?_⟩
    · rw [List.mem_filter]
      exact ⟨List.mem_finRange _, decide_eq_true (by rw [Equiv.symm_apply_apply]; exact (hd _).mpr ⟨k, rfl⟩)⟩
    · simp only [Equiv.symm_apply_apply]; rfl
  · intro r e he
    obtain ⟨k, hk⟩ := (hd _).mp (of_decide_eq_true (List.mem_filter.mp he).2)
    rw [hk]; rfl

/-- A fold of `or` over bits. -/
theorem fold_ori {ι : Type} (s : Finset ι) (g : ι → BitVec 1) : s.fold IntOp.ori 0#1 g = 1#1 ↔ ∃ i ∈ s, g i = 1#1 := by
  classical
  have ho : ∀ a b : BitVec 1, IntOp.ori a b = 1#1 ↔ a = 1#1 ∨ b = 1#1 := by decide
  induction s using Finset.induction_on with
  | empty => simp
  | insert a s ha ih => rw [Finset.fold_insert ha, ho]; exact (or_congr Iff.rfl ih).trans (by simp)

theorem bit_eq (v : BitVec 1) {Q : Prop} [Decidable Q] (h : v = 1#1 ↔ Q) : v = if Q then 1#1 else 0#1 := by
  have hv : ∀ v : BitVec 1, v ≠ 1#1 → v = 0#1 := by decide
  by_cases hq : Q
  · rw [if_pos hq]; exact h.mpr hq
  · rw [if_neg hq]; exact hv v (mt h.mp hq)

theorem ofBool_eq (p : Prop) [Decidable p] : BitVec.ofBool (decide p) = 1#1 ↔ p := by
  by_cases h : p <;> simp [h]

/-- A box that does not count overlaps nothing; the first eight count and no other does. -/
def Eight (t : Boxes) : Prop := ∀ i : Fin 30, half < t i 4 ↔ i.val < 8

theorem thresh_pos : (0 : EReal) < thresh := by
  have e : thresh = (((10066330 * (2 ^ 24)⁻¹ : ℝ)) : EReal) := by
    simp [thresh, Ideal.ofBits, Ideal.ieee]
  rw [e]
  exact_mod_cast (by positivity : (0 : ℝ) < 10066330 * (2 ^ 24)⁻¹)

variable {m c b}

open Classical in
/-- Whether a predictor overlaps some box by more than the threshold. -/
theorem obj_at (ht : Eight (bt m c b)) : (fin m c main_v199 : IVec S16x14x14x5 1) (ix4 b (gr n) (gc n) (ga n)) =
    if Obj (px m c b) (bt m c b) n then 1#1 else 0#1 := by
  have h := Eqns.seg (eqn3 m c) 42 6
  dsimp only [part3, List.drop, List.take, Eqns, Step.Eqn, Step.out, Step.val] at h
  have hn : ∀ hlt, (⟨n.val / 70 * 70 + n.val / 5 % 14 * 5 + n.val % 5, hlt⟩ : Fin 980) = n := fun _ => Fin.ext (by simp only; omega)
  have key : (fin m c main_v199 : IVec S16x14x14x5 1) (ix4 b (gr n) (gc n) (ga n)) = Finset.fold IntOp.ori 0#1 (fun i : Fin 30 =>
      BitVec.ofBool (decide (thresh < (fin m c main_v195 : FVec Ideal S16x30x980 .f32) (ix3 b i n)))) Finset.univ := by
    simp only [h]; pointwise
    clear h
    refine congrArg (fun g => Finset.fold IntOp.ori 0#1 g Finset.univ) (funext fun i => ?_)
    rw [hn]
    rfl
  refine bit_eq _ ?_
  rw [key, fold_ori]
  constructor
  · rintro ⟨i, -, hi⟩
    have hi := (ofBool_eq _).mp hi
    rw [masked_at] at hi
    by_cases hv : half < bt m c b i 4
    · rw [if_pos hv, mul_one] at hi
      exact ⟨⟨i.val, (ht i).mp hv⟩, hi⟩
    · rw [if_neg hv, mul_zero] at hi
      exact absurd hi (not_lt.mpr thresh_pos.le)
  · rintro ⟨i, hi⟩
    refine ⟨row i, Finset.mem_univ _, (ofBool_eq _).mpr ?_⟩
    rw [masked_at, if_pos ((ht _).mpr i.isLt), mul_one]
    exact hi

/-- The best predictor of a box that counts. -/
theorem best_at (ht : Eight (bt m c b)) (i : Fin 8) :
    (fin m c main_v203 : IVec S16x30 32) (ix2 b (row i)) = BitVec.ofNat 32 (best (px m c b) (bt m c b) (row i)).val := by
  have e : (fun n => (fin m c main_v195 : FVec Ideal S16x30x980 .f32) (ix3 b (row i) n)) = iou (px m c b) (bt m c b) (row i) :=
    funext fun n => by rw [masked_at, if_pos ((ht (row i)).mpr i.isLt), mul_one]
  rw [argmax_at, e]
  rfl

/-- Every box has some best predictor. -/
theorem index_at : ∃ q : Fin 980, (fin m c main_v203 : IVec S16x30 32) (ix2 b i) = BitVec.ofNat 32 q.val := ⟨_, argmax_at m c b i⟩

end Cert.ReferenceIdeal.Line

end
-- ==== Proof.Ref3.lean ====
/- The anchor, column and row of a predictor, as the reference computes their words. -/
module

public import proofs.«01_k».proof.Proof.Ref1
public import proofs.«01_k».proof.Proof.Words

@[expose] public section

set_option maxRecDepth 16384
set_option maxHeartbeats 1000000

noncomputable section

namespace Cert.ReferenceIdeal.Line

open Idealize.ShloMosaic Idealize.ShloMosaic.StableHlo Idealize.ShloMosaic.TcCoe Idealize.SL.Sem Cert.Lines Yolo

variable {m : (ℓ : Loc nD τ sig) → Buf (Elt Ideal) ℓ} {c : Dev nD} {b : Fin 16} {i : Fin 30}

/-- Its anchor, its column and its row, as words. -/
theorem anchor_at (q : Fin 980) (hq : (fin m c main_v203 : IVec S16x30 32) (ix2 b i) = BitVec.ofNat 32 q.val) :
    (fin m c main_v204 : IVec S16x30 32) (ix2 b i) = BitVec.ofNat 32 (ga q).val := by
  have h := Eqns.seg (eqn3 m c) 57 22
  dsimp only [part3, List.cons_append, List.nil_append, List.drop, List.take, Eqns, Step.Eqn, Step.out, Step.val] at h
  simp only [TRef.toBuf, TRef.ofBuf, cast_eq] at h
  simp only [h, id_eq]; pointwise
  clear h
  rw [hq]
  clear hq
  revert q
  decide +kernel

theorem column_at (q : Fin 980) (hq : (fin m c main_v203 : IVec S16x30 32) (ix2 b i) = BitVec.ofNat 32 q.val) :
    (fin m c main_v206 : IVec S16x30 32) (ix2 b i) = BitVec.ofNat 32 (gc q).val := by
  have h := Eqns.seg (eqn3 m c) 79 40
  dsimp only [part3, List.cons_append, List.nil_append, List.drop, List.take, Eqns, Step.Eqn, Step.out, Step.val] at h
  simp only [TRef.toBuf, TRef.ofBuf, cast_eq] at h
  simp only [h, id_eq]; pointwise
  clear h
  rw [hq]
  clear hq
  revert q
  decide +kernel

theorem row_at (q : Fin 980) (hq : (fin m c main_v203 : IVec S16x30 32) (ix2 b i) = BitVec.ofNat 32 q.val) :
    (fin m c main_v208 : IVec S16x30 32) (ix2 b i) = BitVec.ofNat 32 (gr q).val := by
  have h := Eqns.seg (eqn3 m c) 119 1
  have h' := Eqns.seg (eqn4 m c) 0 39
  dsimp only [part3, part4, List.cons_append, List.nil_append, List.drop, List.take, Eqns, Step.Eqn, Step.out, Step.val] at h h'
  simp only [TRef.toBuf, TRef.ofBuf, cast_eq] at h h'
  simp only [h, h', id_eq]; pointwise
  clear h' h
  rw [hq]
  clear hq
  revert q
  decide +kernel

end Cert.ReferenceIdeal.Line

end
-- ==== Proof.Ref4.lean ====
/- The reference's encoded boxes and its scatter's index words, at an index. -/
module

public import proofs.«01_k».proof.Proof.Ref3

@[expose] public section

set_option maxRecDepth 16384
set_option maxHeartbeats 1000000

noncomputable section

namespace Cert.ReferenceIdeal.Line

open Idealize.ShloMosaic Idealize.ShloMosaic.StableHlo Idealize.ShloMosaic.TcCoe Idealize.SL.Sem Cert.Lines Yolo

variable {m : (ℓ : Loc nD τ sig) → Buf (Elt Ideal) ℓ} {c : Dev nD} {b : Fin 16} {i : Fin 30}

/-- The table's entry the two index words name. -/
theorem gather_at {α : Type} (x : S5x2.Idx → α) (idx : IVec S16x30x2 32) (a : Fin 5) (k : Fin 2) (h0 : idx (ix3 b i 0) = BitVec.ofNat 32 a.val)
    (h1 : idx (ix3 b i 1) = BitVec.ofNat 32 k.val) :
    Host.gather gather_S5x2_S16x30x2_S16x30_n_01_n_n_01_2_11 x idx (ix2 b i) = x (ix2 a k) := by
  unfold Host.gather
  have s0 : gather_S5x2_S16x30x2_S16x30_n_01_n_n_01_2_11.siIdx (ix2 b i) ⟨0, by decide⟩ = ix3 b i 0 :=
    funext fun q => match q with | ⟨0, _⟩ => rfl | ⟨1, _⟩ => rfl | ⟨2, _⟩ => rfl
  have s1 : gather_S5x2_S16x30x2_S16x30_n_01_n_n_01_2_11.siIdx (ix2 b i) ⟨1, by decide⟩ = ix3 b i 1 :=
    funext fun q => match q with | ⟨0, _⟩ => rfl | ⟨1, _⟩ => rfl | ⟨2, _⟩ => rfl
  have e0 : gather_S5x2_S16x30x2_S16x30_n_01_n_n_01_2_11.start (ix2 b i) idx 0 = a.val := by
    refine Eq.trans (b := min (idx (gather_S5x2_S16x30x2_S16x30_n_01_n_n_01_2_11.siIdx (ix2 b i) ⟨0, by decide⟩)).toInt.toNat 4) rfl ?_
    rw [s0, h0]; clear h0; revert a; decide
  have e1 : gather_S5x2_S16x30x2_S16x30_n_01_n_n_01_2_11.start (ix2 b i) idx 1 = k.val := by
    refine Eq.trans (b := min (idx (gather_S5x2_S16x30x2_S16x30_n_01_n_n_01_2_11.siIdx (ix2 b i) ⟨1, by decide⟩)).toInt.toNat 1) rfl ?_
    rw [s1, h1]; clear h1; revert k; decide
  refine congrArg x (funext fun q => Fin.ext ?_)
  match q with
  | ⟨0, _⟩ => exact e0
  | ⟨1, _⟩ => exact e1

/-- A word below the axis is not wrapped. -/
theorem wrap5 (a : Fin 5) : Scalar.select (IntOp.cmpi .slt (BitVec.ofNat 32 a.val) 0#32) (IntOp.addi (BitVec.ofNat 32 a.val) 5#32) (BitVec.ofNat 32 a.val) =
    BitVec.ofNat 32 a.val := by revert a; decide
theorem wrap14 (a : Fin 14) : Scalar.select (IntOp.cmpi .slt (BitVec.ofNat 32 a.val) 0#32) (IntOp.addi (BitVec.ofNat 32 a.val) 14#32) (BitVec.ofNat 32 a.val) =
    BitVec.ofNat 32 a.val := by revert a; decide
theorem wrap16 (a : Fin 16) : Scalar.select (IntOp.cmpi .slt (BitVec.ofNat 32 a.val) 0#32) (IntOp.addi (BitVec.ofNat 32 a.val) 16#32) (BitVec.ofNat 32 a.val) =
    BitVec.ofNat 32 a.val := by revert a; decide

section Row

variable (q : Fin 980) (hq : (fin m c main_v203 : IVec S16x30 32) (ix2 b i) = BitVec.ofNat 32 q.val)
include hq

/-- The four encoded coordinates of a box, for the predictor its word names. -/
theorem tx_at : (fin m c main_v214 : FVec Ideal S16x30 .f32) (ix2 b i) = Ideal.div (cx (bt m c b) i - num (gc q).val * c32) c32 := by
  have h := Eqns.seg (eqn4 m c) 39 8
  have h' := Eqns.seg (eqn1 m c) 19 26
  dsimp only [part1, part4, List.cons_append, List.nil_append, List.drop, List.take, Eqns, Step.Eqn, Step.out, Step.val] at h h'
  simp only [h, h', id_eq]; pointwise
  clear h h'
  rw [column_at q hq]; rfl

theorem ty_at : (fin m c main_v220 : FVec Ideal S16x30 .f32) (ix2 b i) = Ideal.div (cy (bt m c b) i - num (gr q).val * c32) c32 := by
  have h := Eqns.seg (eqn4 m c) 47 8
  have h' := Eqns.seg (eqn1 m c) 19 26
  dsimp only [part1, part4, List.cons_append, List.nil_append, List.drop, List.take, Eqns, Step.Eqn, Step.out, Step.val] at h h'
  simp only [h, h', id_eq]; pointwise
  clear h h'
  rw [row_at q hq]; rfl

theorem anchor0_at : (fin m c main_v234 : IVec S16x30x2 32) (ix3 b i 0) = BitVec.ofNat 32 (ga q).val := by
  have h := Eqns.seg (eqn4 m c) 60 13
  dsimp only [part4, List.cons_append, List.nil_append, List.drop, List.take, Eqns, Step.Eqn, Step.out, Step.val] at h
  simp only [h, id_eq]; pointwise
  clear h
  rw [anchor_at q hq]; exact wrap5 _

theorem anchor1_at : (fin m c main_v253 : IVec S16x30x2 32) (ix3 b i 0) = BitVec.ofNat 32 (ga q).val := by
  have h := Eqns.seg (eqn4 m c) 84 12
  have h' := Eqns.seg (eqn5 m c) 0 1
  dsimp only [part4, part5, List.cons_append, List.nil_append, List.drop, List.take, Eqns, Step.Eqn, Step.out, Step.val] at h h'
  simp only [h, h', id_eq]; pointwise
  clear h h'
  rw [anchor_at q hq]; exact wrap5 _

omit hq in
theorem word0_at : (fin m c main_v234 : IVec S16x30x2 32) (ix3 b i 1) = BitVec.ofNat 32 (0 : Fin 2).val := by
  have h := Eqns.seg (eqn4 m c) 60 13
  dsimp only [part4, List.cons_append, List.nil_append, List.drop, List.take, Eqns, Step.Eqn, Step.out, Step.val] at h
  simp only [h, id_eq]; pointwise

omit hq in
theorem word1_at : (fin m c main_v253 : IVec S16x30x2 32) (ix3 b i 1) = BitVec.ofNat 32 (1 : Fin 2).val := by
  have h := Eqns.seg (eqn4 m c) 84 12
  have h' := Eqns.seg (eqn5 m c) 0 1
  dsimp only [part4, part5, List.cons_append, List.nil_append, List.drop, List.take, Eqns, Step.Eqn, Step.out, Step.val] at h h'
  simp only [h, h', id_eq]; pointwise

theorem tw_at : (fin m c main_v239 : FVec Ideal S16x30 .f32) (ix2 b i) = Ideal.log (max (Ideal.div (Ideal.div (bt m c b i 2) c32) (anchW (ga q))) eps) := by
  have hg : (fin m c main_v235 : FVec Ideal S16x30 .f32) (ix2 b i) = anchW (ga q) := by
    have h := Eqns.seg (eqn4 m c) 73 1
    have h' := Eqns.seg (eqn0 m c) 0 1
    dsimp only [part0, part4, List.cons_append, List.nil_append, List.drop, List.take, Eqns, Step.Eqn, Step.out, Step.val] at h h'
    rw [h.1]
    refine (gather_at _ _ (ga q) 0 (anchor0_at q hq) word0_at).trans ?_
    rw [h'.1]; exact anchW_lit _
  have h := Eqns.seg (eqn4 m c) 55 5
  have h' := Eqns.seg (eqn4 m c) 74 5
  dsimp only [part4, List.cons_append, List.nil_append, List.drop, List.take, Eqns, Step.Eqn, Step.out, Step.val] at h h'
  simp only [h, h', id_eq]; pointwise
  clear h h'
  rw [hg]; rfl

theorem th_at : (fin m c main_v258 : FVec Ideal S16x30 .f32) (ix2 b i) = Ideal.log (max (Ideal.div (Ideal.div (bt m c b i 3) c32) (anchH (ga q))) eps) := by
  have hg : (fin m c main_v254 : FVec Ideal S16x30 .f32) (ix2 b i) = anchH (ga q) := by
    have h := Eqns.seg (eqn5 m c) 1 1
    have h' := Eqns.seg (eqn0 m c) 0 1
    dsimp only [part0, part5, List.cons_append, List.nil_append, List.drop, List.take, Eqns, Step.Eqn, Step.out, Step.val] at h h'
    rw [h.1]
    refine (gather_at _ _ (ga q) 1 (anchor1_at q hq) word1_at).trans ?_
    rw [h'.1]; exact anchH_lit _
  have h := Eqns.seg (eqn4 m c) 79 5
  have h' := Eqns.seg (eqn5 m c) 2 5
  dsimp only [part4, part5, List.cons_append, List.nil_append, List.drop, List.take, Eqns, Step.Eqn, Step.out, Step.val] at h h'
  simp only [h, h', id_eq]; pointwise
  clear h h'
  rw [hg]; rfl

/-- The four index words of a row for the targets, and for the mask. -/
theorem w1_at : (fin m c main_v267 : IVec S16x30 32) (ix2 b i) = if half < bt m c b i 4 then BitVec.ofNat 32 (gr q).val else 14#32 := by
  have e : (fin m c main_v267 : IVec S16x30 32) (ix2 b i) =
      Scalar.select ((fin m c main_v93 : IVec S16x30 1) (ix2 b i)) ((fin m c main_v208 : IVec S16x30 32) (ix2 b i)) 14#32 := by
    have h := Eqns.seg (eqn5 m c) 15 4
    dsimp only [part5, List.cons_append, List.nil_append, List.drop, List.take, Eqns, Step.Eqn, Step.out, Step.val] at h
    simp only [TRef.toBuf, TRef.ofBuf, cast_eq] at h
    simp only [h, id_eq]; pointwise
  rw [e, valid_at, row_at q hq]
  by_cases hv : half < bt m c b i 4
  · rw [if_pos hv, if_pos hv]; rfl
  · rw [if_neg hv, if_neg hv]; rfl

end Row

omit i in
theorem w0_at (i : Fin 30) : (fin m c main_v266 : IVec S16x30 32) (ix2 b i) = BitVec.ofNat 32 b.val := by
  have h := Eqns.seg (eqn5 m c) 12 3
  dsimp only [part5, List.cons_append, List.nil_append, List.drop, List.take, Eqns, Step.Eqn, Step.out, Step.val] at h
  simp only [h, id_eq]; pointwise

end Cert.ReferenceIdeal.Line

end
-- ==== Proof.Scat.lean ====
/- The reference's two scatters at one element: the last update that lands there, in row-major order, or the operand's element when none does. -/
module

public import proofs.«01_k».proof.Proof.Ref1
public import Idealize.ShloMosaic.Lib.Routing.OpsPair

@[expose] public section

set_option maxRecDepth 16384

noncomputable section

namespace Cert.ReferenceIdeal.Line

open Idealize.ShloMosaic Idealize.ShloMosaic.StableHlo Idealize.ShloMosaic.TcCoe

/-- A fold over a strictly increasing list that takes the value of each hit ends at the last hit's value. -/
theorem foldl_last {α : Type} {N : ℕ} (hit : Fin N → Prop) [DecidablePred hit] (v : Fin N → α) (l : List (Fin N)) (hl : l.Pairwise (· < ·)) (x : α)
    (e : Fin N) (he : e ∈ l) (h : hit e) (h' : ∀ e' ∈ l, e < e' → ¬ hit e') :
    l.foldl (fun r n => if hit n then v n else r) x = v e := by
  induction l generalizing x with
  | nil => exact absurd he (List.not_mem_nil)
  | cons a l ih =>
    rw [List.foldl_cons]
    rcases List.mem_cons.mp he with rfl | he'
    · rw [if_pos h]
      have hno : ∀ n ∈ l, ¬ hit n := fun n hn => h' n (List.mem_cons_of_mem _ hn) (List.rel_of_pairwise_cons hl hn)
      clear ih h' hl he
      generalize v e = y
      induction l generalizing y with
      | nil => rfl
      | cons b l ih => rw [List.foldl_cons, if_neg (hno b (List.mem_cons_self ..))]; exact ih (fun n hn => hno n (List.mem_cons_of_mem _ hn)) y
    · exact ih (List.Pairwise.of_cons hl) _ he' fun e' hm => h' e' (List.mem_cons_of_mem _ hm)

/-- With no hit at all, it ends where it began. -/
theorem foldl_none {α : Type} {N : ℕ} (hit : Fin N → Prop) [DecidablePred hit] (v : Fin N → α) (l : List (Fin N)) (x : α) (h : ∀ e ∈ l, ¬ hit e) :
    l.foldl (fun r n => if hit n then v n else r) x = x := by
  induction l generalizing x with
  | nil => rfl
  | cons b l ih => rw [List.foldl_cons, if_neg (h b (List.mem_cons_self ..))]; exact ih x (fun n hn => h n (List.mem_cons_of_mem _ hn))

abbrev sd := scatter_S16x14x14x5x4_S16x30x4_S16x30x4_2_0123_0123_2

variable (idx : IVec S16x30x4 32) (b b' : Fin 16) (i : Fin 30) (k k' : Fin 4) (r c : Fin 14) (a : Fin 5)

theorem start0 : sd.start (ix3 b i k) idx 0 = (idx (ix3 b i 0)).toInt :=
  congrArg (fun j => (idx j).toInt) (funext fun q => match q with | ⟨0, _⟩ => rfl | ⟨1, _⟩ => rfl | ⟨2, _⟩ => rfl)
theorem start1 : sd.start (ix3 b i k) idx 1 = (idx (ix3 b i 1)).toInt :=
  congrArg (fun j => (idx j).toInt) (funext fun q => match q with | ⟨0, _⟩ => rfl | ⟨1, _⟩ => rfl | ⟨2, _⟩ => rfl)
theorem start2 : sd.start (ix3 b i k) idx 2 = (idx (ix3 b i 2)).toInt :=
  congrArg (fun j => (idx j).toInt) (funext fun q => match q with | ⟨0, _⟩ => rfl | ⟨1, _⟩ => rfl | ⟨2, _⟩ => rfl)
theorem start3 : sd.start (ix3 b i k) idx 3 = (idx (ix3 b i 3)).toInt :=
  congrArg (fun j => (idx j).toInt) (funext fun q => match q with | ⟨0, _⟩ => rfl | ⟨1, _⟩ => rfl | ⟨2, _⟩ => rfl)
theorem start4 : sd.start (ix3 b i k) idx 4 = 0 := rfl
theorem window4 : sd.window (ix3 b i k) 4 = k.val := rfl

/-- Where an update lands. -/
theorem lands : sd.resultIdx? (ix3 b' i k') idx = some (ix5 b r c a k) ↔
    ((idx (ix3 b' i 0)).toInt = b.val ∧ (idx (ix3 b' i 1)).toInt = r.val ∧ (idx (ix3 b' i 2)).toInt = c.val ∧ (idx (ix3 b' i 3)).toInt = a.val) ∧ k' = k := by
  rw [Routing.resultIdx?_eq_some]
  have w0 : sd.window (ix3 b' i k') 0 = 0 := rfl
  have w1 : sd.window (ix3 b' i k') 1 = 0 := rfl
  have w2 : sd.window (ix3 b' i k') 2 = 0 := rfl
  have w3 : sd.window (ix3 b' i k') 3 = 0 := rfl
  constructor
  · intro h
    have h0 := (congrArg₂ (· + ·) (start0 idx b' i k') (congrArg Nat.cast w0)).symm.trans (h 0)
    have h1 := (congrArg₂ (· + ·) (start1 idx b' i k') (congrArg Nat.cast w1)).symm.trans (h 1)
    have h2 := (congrArg₂ (· + ·) (start2 idx b' i k') (congrArg Nat.cast w2)).symm.trans (h 2)
    have h3 := (congrArg₂ (· + ·) (start3 idx b' i k') (congrArg Nat.cast w3)).symm.trans (h 3)
    have h4 : (0 : Int) + (k'.val : Int) = k.val := h 4
    exact ⟨⟨(add_zero _).symm.trans h0, (add_zero _).symm.trans h1, (add_zero _).symm.trans h2, (add_zero _).symm.trans h3⟩, Fin.ext (by omega)⟩
  · rintro ⟨⟨h0, h1, h2, h3⟩, rfl⟩ q
    match q with
    | ⟨0, _⟩ => exact (congrArg₂ (· + ·) (start0 idx b' i k') (congrArg Nat.cast w0)).trans ((add_zero _).trans h0)
    | ⟨1, _⟩ => exact (congrArg₂ (· + ·) (start1 idx b' i k') (congrArg Nat.cast w1)).trans ((add_zero _).trans h1)
    | ⟨2, _⟩ => exact (congrArg₂ (· + ·) (start2 idx b' i k') (congrArg Nat.cast w2)).trans ((add_zero _).trans h2)
    | ⟨3, _⟩ => exact (congrArg₂ (· + ·) (start3 idx b' i k') (congrArg Nat.cast w3)).trans ((add_zero _).trans h3)
    | ⟨4, _⟩ => exact zero_add _

theorem eq_ix3 (j : S16x30x4.Idx) : j = ix3 (j 0) (j 1) (j 2) := funext fun q => match q with | ⟨0, _⟩ => rfl | ⟨1, _⟩ => rfl | ⟨2, _⟩ => rfl

variable {α : Type} (x : S16x14x14x5x4.Idx → α) (upd : S16x30x4.Idx → α)

/-- The set of index words of row `i` of image `b` names the cell. -/
def Names : Prop := (idx (ix3 b i 0)).toInt = b.val ∧ (idx (ix3 b i 1)).toInt = r.val ∧ (idx (ix3 b i 2)).toInt = c.val ∧ (idx (ix3 b i 3)).toInt = a.val

/-- A cell that row `i` names and no later row does holds row `i`'s update. -/
theorem scatter_last (hb : ∀ b i, (idx (ix3 b i 0)).toInt = b.val) (h : Names idx b i r c a) (h' : ∀ i', i < i' → ¬ Names idx b i' r c a) :
    Host.scatter sd (fun _ v => v) x idx upd (ix5 b r c a k) = upd (ix3 b i k) := by
  rw [Routing.scatter_at]
  refine (foldl_last (fun n => sd.resultIdx? (S16x30x4.rowMajor.symm n) idx = some (ix5 b r c a k)) (fun n => upd (S16x30x4.rowMajor.symm n))
    (List.finRange _) (List.pairwise_lt_finRange _) _ (S16x30x4.rowMajor (ix3 b i k)) (List.mem_finRange _) ?_ ?_).trans ?_
  · rw [Equiv.symm_apply_apply, lands]; exact ⟨h, rfl⟩
  · intro n _ hlt hn
    obtain ⟨j, rfl⟩ := S16x30x4.rowMajor.surjective n
    rw [Equiv.symm_apply_apply, eq_ix3 j] at hn
    obtain ⟨hn, hk⟩ := (lands idx b (j 0) (j 1) k (j 2) r c a).mp hn
    have e0 : j 0 = b := Fin.ext (by have := hb (j 0) (j 1); have := hn.1; omega)
    have hlt' : (S16x30x4.rowMajor (ix3 b i k)).val < (S16x30x4.rowMajor j).val := hlt
    rw [Shape.rowMajor_val_three, Shape.rowMajor_val_three] at hlt'
    have hlt'' : (b.val * 30 + i.val) * 4 + k.val < ((j 0).val * 30 + (j 1).val) * 4 + (j 2).val := hlt'
    have e0' := congrArg Fin.val e0
    have e2' := congrArg Fin.val hk
    refine h' (j 1) (Fin.lt_def.mpr (by omega)) ?_
    rw [e0] at hn
    exact hn
  · rw [Equiv.symm_apply_apply]

/-- A cell that no row names keeps its element. -/
theorem scatter_none (hb : ∀ b i, (idx (ix3 b i 0)).toInt = b.val) (h : ∀ i, ¬ Names idx b i r c a) :
    Host.scatter sd (fun _ v => v) x idx upd (ix5 b r c a k) = x (ix5 b r c a k) := by
  rw [Routing.scatter_at]
  refine foldl_none (fun n => sd.resultIdx? (S16x30x4.rowMajor.symm n) idx = some (ix5 b r c a k)) (fun n => upd (S16x30x4.rowMajor.symm n)) _ _ ?_
  intro n _ hn
  obtain ⟨j, rfl⟩ := S16x30x4.rowMajor.surjective n
  rw [Equiv.symm_apply_apply, eq_ix3 j] at hn
  obtain ⟨hn, -⟩ := (lands idx b (j 0) (j 1) k (j 2) r c a).mp hn
  have e0 : j 0 = b := Fin.ext (by have := hb (j 0) (j 1); have := hn.1; omega)
  rw [e0] at hn
  exact h (j 1) hn

end Cert.ReferenceIdeal.Line

end
-- ==== Proof.Ref5.lean ====
/- The reference's scattered targets and mask, cell by cell. -/
module

public import proofs.«01_k».proof.Proof.Ref2
public import proofs.«01_k».proof.Proof.Ref4
public import proofs.«01_k».proof.Proof.Scat

@[expose] public section

set_option maxRecDepth 16384
set_option maxHeartbeats 1000000

noncomputable section

namespace Cert.ReferenceIdeal.Line

open Idealize.ShloMosaic Idealize.ShloMosaic.StableHlo Idealize.ShloMosaic.TcCoe Idealize.SL.Sem Cert.Lines Yolo

variable {m : (ℓ : Loc nD τ sig) → Buf (Elt Ideal) ℓ} {c : Dev nD} {b : Fin 16} {i : Fin 30}

theorem wrapRow (p : Prop) [Decidable p] (a : Fin 14) :
    Scalar.select (IntOp.cmpi .slt (if p then BitVec.ofNat 32 a.val else 14#32) 0#32) (IntOp.addi (if p then BitVec.ofNat 32 a.val else 14#32) 14#32)
      (if p then BitVec.ofNat 32 a.val else 14#32) = if p then BitVec.ofNat 32 a.val else 14#32 := by
  by_cases h : p
  · rw [if_pos h]; exact wrap14 a
  · rw [if_neg h]; decide

/-- What the index words of a row are, given the predictor its best word names. -/
structure Words (m : (ℓ : Loc nD τ sig) → Buf (Elt Ideal) ℓ) (c : Dev nD) (idx : IVec S16x30x4 32) : Prop where
  w0 : ∀ b i, idx (ix3 b i 0) = BitVec.ofNat 32 b.val
  w1 : ∀ b i (q : Fin 980), (fin m c main_v203 : IVec S16x30 32) (ix2 b i) = BitVec.ofNat 32 q.val →
    idx (ix3 b i 1) = if half < bt m c b i 4 then BitVec.ofNat 32 (gr q).val else 14#32
  w2 : ∀ b i (q : Fin 980), (fin m c main_v203 : IVec S16x30 32) (ix2 b i) = BitVec.ofNat 32 q.val → idx (ix3 b i 2) = BitVec.ofNat 32 (gc q).val
  w3 : ∀ b i (q : Fin 980), (fin m c main_v203 : IVec S16x30 32) (ix2 b i) = BitVec.ofNat 32 q.val → idx (ix3 b i 3) = BitVec.ofNat 32 (ga q).val

variable (m c)

/-- The index words of the targets' scatter, each the word of a table. -/
theorem words_target : Words m c (fin m c main_v293 : IVec S16x30x4 32) where
  w0 b i := by
    have e : (fin m c main_v293 : IVec S16x30x4 32) (ix3 b i 0) = (fin m c main_v273 : IVec S16x30 32) (ix2 b i) := by
      have h := Eqns.seg (eqn5 m c) 49 5
      dsimp only [part5, List.cons_append, List.nil_append, List.drop, List.take, Eqns, Step.Eqn, Step.out, Step.val] at h
      simp only [h]; pointwise; simp only [h, Matrix.cons_val]; pointwise
    rw [e]
    have h := Eqns.seg (eqn5 m c) 21 7
    dsimp only [part5, List.cons_append, List.nil_append, List.drop, List.take, Eqns, Step.Eqn, Step.out, Step.val] at h
    simp only [h, id_eq]; pointwise
    clear h
    rw [w0_at]; exact wrap16 _
  w1 b i q hq := by
    have e : (fin m c main_v293 : IVec S16x30x4 32) (ix3 b i 1) = (fin m c main_v278 : IVec S16x30 32) (ix2 b i) := by
      have h := Eqns.seg (eqn5 m c) 49 5
      dsimp only [part5, List.cons_append, List.nil_append, List.drop, List.take, Eqns, Step.Eqn, Step.out, Step.val] at h
      simp only [h]; pointwise; simp only [h, Matrix.cons_val]; pointwise
    rw [e]
    have h := Eqns.seg (eqn5 m c) 28 7
    dsimp only [part5, List.cons_append, List.nil_append, List.drop, List.take, Eqns, Step.Eqn, Step.out, Step.val] at h
    simp only [h, id_eq]; pointwise
    clear h
    rw [w1_at q hq]; exact wrapRow _ _
  w2 b i q hq := by
    have e : (fin m c main_v293 : IVec S16x30x4 32) (ix3 b i 2) = (fin m c main_v283 : IVec S16x30 32) (ix2 b i) := by
      have h := Eqns.seg (eqn5 m c) 49 5
      dsimp only [part5, List.cons_append, List.nil_append, List.drop, List.take, Eqns, Step.Eqn, Step.out, Step.val] at h
      simp only [h]; pointwise; simp only [h, Matrix.cons_val]; pointwise
    rw [e]
    have h := Eqns.seg (eqn5 m c) 35 7
    dsimp only [part5, List.cons_append, List.nil_append, List.drop, List.take, Eqns, Step.Eqn, Step.out, Step.val] at h
    simp only [h, id_eq]; pointwise
    clear h
    rw [column_at q hq]; exact wrap14 _
  w3 b i q hq := by
    have e : (fin m c main_v293 : IVec S16x30x4 32) (ix3 b i 3) = (fin m c main_v288 : IVec S16x30 32) (ix2 b i) := by
      have h := Eqns.seg (eqn5 m c) 49 5
      dsimp only [part5, List.cons_append, List.nil_append, List.drop, List.take, Eqns, Step.Eqn, Step.out, Step.val] at h
      simp only [h]; pointwise; simp only [h, Matrix.cons_val]; pointwise
    rw [e]
    have h := Eqns.seg (eqn5 m c) 42 7
    dsimp only [part5, List.cons_append, List.nil_append, List.drop, List.take, Eqns, Step.Eqn, Step.out, Step.val] at h
    simp only [h, id_eq]; pointwise
    clear h
    rw [anchor_at q hq]; exact wrap5 _

/-- The index words of the mask's scatter are the targets'. -/
theorem words_same : (fin m c main_v320 : IVec S16x30x4 32) = (fin m c main_v293 : IVec S16x30x4 32) := by
  have h := Eqns.seg (eqn5 m c) 21 41
  have h' := Eqns.seg (eqn6 m c) 0 28
  dsimp only [part5, part6, List.cons_append, List.nil_append, List.drop, List.take, Eqns, Step.Eqn, Step.out, Step.val] at h h'
  simp only [h, h', Matrix.cons_val]
  rfl

variable {m c}

/-- A row's words name a predictor's cell exactly when the row counts and its best predictor is that one. -/
theorem names_iff {idx : IVec S16x30x4 32} (W : Words m c idx) (q n : Fin 980)
    (hq : (fin m c main_v203 : IVec S16x30 32) (ix2 b i) = BitVec.ofNat 32 q.val) :
    Names idx b i (gr n) (gc n) (ga n) ↔ half < bt m c b i 4 ∧ q = n := by
  have t16 : ∀ a : Fin 16, (BitVec.ofNat 32 a.val).toInt = a.val := by decide
  have t14 : ∀ a : Fin 14, (BitVec.ofNat 32 a.val).toInt = a.val := by decide
  have t5 : ∀ a : Fin 5, (BitVec.ofNat 32 a.val).toInt = a.val := by decide
  unfold Names
  rw [W.w0, W.w1 b i q hq, W.w2 b i q hq, W.w3 b i q hq, t16, t14, t5]
  by_cases hv : half < bt m c b i 4
  · rw [if_pos hv, t14]
    constructor
    · rintro ⟨-, h1, h2, h3⟩
      refine ⟨hv, Fin.ext ?_⟩
      simp only at h1 h2 h3
      omega
    · rintro ⟨-, rfl⟩; exact ⟨rfl, rfl, rfl, rfl⟩
  · rw [if_neg hv]
    constructor
    · rintro ⟨-, h1, -⟩
      have e : (14#32 : BitVec 32).toInt = 14 := by decide
      rw [e] at h1
      have := (gr n).isLt
      omega
    · rintro ⟨h, -⟩; exact absurd h hv

section Cell

variable {idx : IVec S16x30x4 32} (W : Words m c idx) (ht : Eight (bt m c b)) (n : Fin 980) (k : Fin 4) {α : Type}
  (x : S16x14x14x5x4.Idx → α) (upd : S16x30x4.Idx → α)
include W ht

theorem batch_word : ∀ b i, (idx (ix3 b i 0)).toInt = b.val := fun b i => by
  have t16 : ∀ a : Fin 16, (BitVec.ofNat 32 a.val).toInt = a.val := by decide
  rw [W.w0, t16]

/-- The winner's cell holds the winner's update. -/
theorem cell_win (i : Fin 8) (h : Wins (px m c b) (bt m c b) i n) :
    Host.scatter sd (fun _ v => v) x idx upd (ix5 b (gr n) (gc n) (ga n) k) = upd (ix3 b (row i) k) := by
  refine scatter_last idx b (row i) k (gr n) (gc n) (ga n) x upd (batch_word W ht) ?_ ?_
  · exact (names_iff W _ n (best_at ht i)).mpr ⟨(ht (row i)).mpr i.isLt, h.1⟩
  · intro i' hlt hn
    obtain ⟨q, hq⟩ := index_at (m := m) (c := c) (b := b) (i := i')
    obtain ⟨hv, rfl⟩ := (names_iff W q n hq).mp hn
    have h8 := (ht i').mp hv
    have hq' := best_at ht ⟨i'.val, h8⟩
    exact h.2 ⟨i'.val, h8⟩ hlt ((ofNat_980 _ _).mp (hq'.symm.trans hq))

/-- A cell no box wins keeps its element. -/
theorem cell_none (h : ∀ i, ¬ Wins (px m c b) (bt m c b) i n) :
    Host.scatter sd (fun _ v => v) x idx upd (ix5 b (gr n) (gc n) (ga n) k) = x (ix5 b (gr n) (gc n) (ga n) k) := by
  refine scatter_none idx b k (gr n) (gc n) (ga n) x upd (batch_word W ht) ?_
  intro i' hn
  obtain ⟨q, hq⟩ := index_at (m := m) (c := c) (b := b) (i := i')
  obtain ⟨hv, rfl⟩ := (names_iff W q n hq).mp hn
  have h8 := (ht i').mp hv
  have hq' := best_at ht ⟨i'.val, h8⟩
  have hb : best (px m c b) (bt m c b) (row ⟨i'.val, h8⟩) = q := (ofNat_980 _ _).mp (hq'.symm.trans hq)
  classical
  have hne : (Finset.univ.filter fun j : Fin 8 => best (px m c b) (bt m c b) (row j) = q).Nonempty := ⟨_, Finset.mem_filter.mpr ⟨Finset.mem_univ _, hb⟩⟩
  refine h (Finset.max' _ hne) ⟨(Finset.mem_filter.mp (Finset.max'_mem _ hne)).2, fun j hj hbj => ?_⟩
  exact absurd (Finset.le_max' _ j (Finset.mem_filter.mpr ⟨Finset.mem_univ _, hbj⟩)) (not_le.mpr hj)

end Cell

/-- The encoded boxes. -/
theorem enc_at (ht : Eight (bt m c b)) (i : Fin 8) (k : Fin 4) :
    (fin m c main_v263 : FVec Ideal S16x30x4 .f32) (ix3 b (row i) k) = enc (px m c b) (bt m c b) (row i) k := by
  have hq := best_at ht i
  have h := Eqns.seg (eqn5 m c) 7 5
  dsimp only [part5, List.cons_append, List.nil_append, List.drop, List.take, Eqns, Step.Eqn, Step.out, Step.val] at h
  have e0 : (fin m c main_v263 : FVec Ideal S16x30x4 .f32) (ix3 b (row i) 0) = (fin m c main_v214 : FVec Ideal S16x30 .f32) (ix2 b (row i)) := by
    simp only [h]; pointwise; simp only [h, Matrix.cons_val]; pointwise
  have e1 : (fin m c main_v263 : FVec Ideal S16x30x4 .f32) (ix3 b (row i) 1) = (fin m c main_v220 : FVec Ideal S16x30 .f32) (ix2 b (row i)) := by
    simp only [h]; pointwise; simp only [h, Matrix.cons_val]; pointwise
  have e2 : (fin m c main_v263 : FVec Ideal S16x30x4 .f32) (ix3 b (row i) 2) = (fin m c main_v239 : FVec Ideal S16x30 .f32) (ix2 b (row i)) := by
    simp only [h]; pointwise; simp only [h, Matrix.cons_val]; pointwise
  have e3 : (fin m c main_v263 : FVec Ideal S16x30x4 .f32) (ix3 b (row i) 3) = (fin m c main_v258 : FVec Ideal S16x30 .f32) (ix2 b (row i)) := by
    simp only [h]; pointwise; simp only [h, Matrix.cons_val]; pointwise
  match k with
  | 0 => exact e0.trans (tx_at _ hq)
  | 1 => exact e1.trans (ty_at _ hq)
  | 2 => exact e2.trans (tw_at _ hq)
  | 3 => exact e3.trans (th_at _ hq)

/-- The scattered targets and the mask: the winner's encoding and one, or zeros. -/
theorem target_win (ht : Eight (bt m c b)) (i : Fin 8) (n : Fin 980) (k : Fin 4) (h : Wins (px m c b) (bt m c b) i n) :
    (fin m c main_v294 : FVec Ideal S16x14x14x5x4 .f32) (ix5 b (gr n) (gc n) (ga n) k) = enc (px m c b) (bt m c b) (row i) k := by
  have e := Eqns.seg (eqn5 m c) 54 1
  dsimp only [part5, List.cons_append, List.nil_append, List.drop, List.take, Eqns, Step.Eqn, Step.out, Step.val] at e
  rw [e.1]
  exact (cell_win (words_target m c) ht n k _ _ i h).trans (enc_at ht i k)

theorem target_none (ht : Eight (bt m c b)) (n : Fin 980) (k : Fin 4) (h : ∀ i, ¬ Wins (px m c b) (bt m c b) i n) :
    (fin m c main_v294 : FVec Ideal S16x14x14x5x4 .f32) (ix5 b (gr n) (gc n) (ga n) k) = (0 : EReal) := by
  have e := Eqns.seg (eqn5 m c) 54 1
  have e' := Eqns.seg (eqn5 m c) 19 2
  dsimp only [part5, List.cons_append, List.nil_append, List.drop, List.take, Eqns, Step.Eqn, Step.out, Step.val] at e e'
  rw [e.1]
  refine (cell_none (words_target m c) ht n k _ _ h).trans ?_
  simp only [e']; pointwise

theorem mask_win (ht : Eight (bt m c b)) (i : Fin 8) (n : Fin 980) (k : Fin 4) (h : Wins (px m c b) (bt m c b) i n) :
    (fin m c main_v322 : FVec Ideal S16x14x14x5x4 .f32) (ix5 b (gr n) (gc n) (ga n) k) = (1 : EReal) := by
  have e := Eqns.seg (eqn6 m c) 30 1
  have e' := Eqns.seg (eqn6 m c) 28 2
  dsimp only [part6, List.cons_append, List.nil_append, List.drop, List.take, Eqns, Step.Eqn, Step.out, Step.val] at e e'
  rw [e.1, words_same]
  refine (cell_win (words_target m c) ht n k _ _ i h).trans ?_
  simp only [e']; pointwise

theorem mask_none (ht : Eight (bt m c b)) (n : Fin 980) (k : Fin 4) (h : ∀ i, ¬ Wins (px m c b) (bt m c b) i n) :
    (fin m c main_v322 : FVec Ideal S16x14x14x5x4 .f32) (ix5 b (gr n) (gc n) (ga n) k) = (0 : EReal) := by
  have e := Eqns.seg (eqn6 m c) 30 1
  have e' := Eqns.seg (eqn5 m c) 55 2
  dsimp only [part5, part6, List.cons_append, List.nil_append, List.drop, List.take, Eqns, Step.Eqn, Step.out, Step.val] at e e'
  rw [e.1, words_same]
  refine (cell_none (words_target m c) ht n k _ _ h).trans ?_
  simp only [e']; pointwise

end Cert.ReferenceIdeal.Line

end
-- ==== Proof.Ref6.lean ====
/- The reference's four results in plain terms. -/
module

public import proofs.«01_k».proof.Proof.Ref5
public import proofs.«01_k».proof.Proof.Total

@[expose] public section

set_option maxRecDepth 16384
set_option maxHeartbeats 1000000

noncomputable section

namespace Cert.ReferenceIdeal.Line

open Idealize.ShloMosaic Idealize.ShloMosaic.StableHlo Idealize.ShloMosaic.TcCoe Idealize.SL.Sem Cert.Lines Yolo

variable (m : (ℓ : Loc nD τ sig) → Buf (Elt Ideal) ℓ) (c : Dev nD)

/-- A sum over every index of an array is a sum over images and predictors. -/
theorem total5 (h : S16x14x14x5x4.ReducesTo [0, 1, 2, 3, 4] S_) (x : S16x14x14x5x4.Idx → EReal) :
    Ideal.hostReduceAdd h x 0 ix0 = ∑ b, ∑ n, ∑ k, x (ix5 b (gr n) (gc n) (ga n) k) := by
  rw [Ideal.hostReduceAdd_total h fun a => a.elim0, zero_add, sum_idx5]
  exact Finset.sum_congr rfl fun b _ => sum_grid fun r c a => ∑ k, x (ix5 b r c a k)

theorem total4 (h : S16x14x14x5.ReducesTo [0, 1, 2, 3] S_) (x : S16x14x14x5.Idx → EReal) :
    Ideal.hostReduceAdd h x 0 ix0 = ∑ b, ∑ n, x (ix4 b (gr n) (gc n) (ga n)) := by
  rw [Ideal.hostReduceAdd_total h fun a => a.elim0, zero_add, sum_idx4]
  exact Finset.sum_congr rfl fun b _ => sum_grid fun r c a => x (ix4 b r c a)

theorem pl_at (b : Fin 16) (n : Fin 980) (k : Fin 4) :
    (fin m c main_v16 : FVec Ideal S16x14x14x5x4 .f32) (ix5 b (gr n) (gc n) (ga n) k) = pl (px m c b) n k :=
  match k with
  | 0 => pl0_at m c b n
  | 1 => pl1_at m c b n
  | 2 => pl2_at m c b n
  | 3 => pl3_at m c b n

/-- The localization loss before its weight. -/
theorem v327_eq (hE : ∀ b, Eight (bt m c b)) : (fin m c main_v327 : FVec Ideal S_ .f32) ix0 = (∑ b, Yolo.loc (px m c b) (bt m c b) : EReal) := by
  have h := Eqns.seg (eqn6 m c) 31 6
  dsimp only [part6, List.cons_append, List.nil_append, List.drop, List.take, Eqns, Step.Eqn, Step.out, Step.val] at h
  simp only [h]; pointwise
  clear h
  rw [total5]
  refine sum_same _ _ fun b => ?_
  refine Eq.trans ?_ (loc_grid (px m c b) (bt m c b)
    (fun n k => (fin m c main_v322 : FVec Ideal S16x14x14x5x4 .f32) (ix5 b (gr n) (gc n) (ga n) k))
    (fun n k => (fin m c main_v294 : FVec Ideal S16x14x14x5x4 .f32) (ix5 b (gr n) (gc n) (ga n) k))
    (fun i n k hw => ⟨mask_win (hE b) i n k hw, target_win (hE b) i n k hw⟩)
    (fun n k hw => ⟨mask_none (hE b) n k hw, target_none (hE b) n k hw⟩))
  refine sum_same _ _ fun n => sum_same _ _ fun k => ?_
  rw [← pl_at]
  rfl

open Classical in
theorem v200_at (b : Fin 16) (hE : Eight (bt m c b)) (n : Fin 980) :
    (fin m c main_v200 : FVec Ideal S16x14x14x5 .f32) (ix4 b (gr n) (gc n) (ga n)) = if Obj (px m c b) (bt m c b) n then (1 : EReal) else 0 := by
  have h := Eqns.seg (eqn3 m c) 48 1
  dsimp only [part3, List.cons_append, List.nil_append, List.drop, List.take, Eqns, Step.Eqn, Step.out, Step.val] at h
  simp only [h]; pointwise
  clear h
  rw [obj_at n hE]
  split_ifs <;> simp [FloatOps.uitofp]

theorem v202_at (b : Fin 16) (n : Fin 980) : (fin m c main_v202 : FVec Ideal S16x14x14x5 .f32) (ix4 b (gr n) (gc n) (ga n)) =
    (1 : EReal) - (fin m c main_v200 : FVec Ideal S16x14x14x5 .f32) (ix4 b (gr n) (gc n) (ga n)) := by
  have h := Eqns.seg (eqn3 m c) 49 3
  dsimp only [part3, List.cons_append, List.nil_append, List.drop, List.take, Eqns, Step.Eqn, Step.out, Step.val] at h
  simp only [h]; pointwise

/-- The confidence loss before its mean. -/
theorem v339_eq (hE : ∀ b, Eight (bt m c b)) : (fin m c main_v339 : FVec Ideal S_ .f32) ix0 = (∑ b, Yolo.conf (px m c b) (bt m c b) : EReal) := by
  have h := Eqns.seg (eqn6 m c) 41 13
  dsimp only [part6, List.cons_append, List.nil_append, List.drop, List.take, Eqns, Step.Eqn, Step.out, Step.val] at h
  simp only [h]; pointwise
  clear h
  rw [total4, total4]
  refine Eq.trans ?_ (conf_grid (px m c) (bt m c)
    (fun b n => (fin m c main_v200 : FVec Ideal S16x14x14x5 .f32) (ix4 b (gr n) (gc n) (ga n)))
    (fun b n => (fin m c main_v202 : FVec Ideal S16x14x14x5 .f32) (ix4 b (gr n) (gc n) (ga n)))
    (fun b n => v200_at m c b (hE b) n) (fun b n => v202_at m c b n)).1
  refine congrArg₂ (· + ·) (Finset.sum_congr rfl fun b _ => Finset.sum_congr rfl fun n _ => ?_)
    (congrArg (half * ·) (Finset.sum_congr rfl fun b _ => Finset.sum_congr rfl fun n _ => ?_))
  · rw [← pc_at]; rfl
  · rw [← pc_at]; rfl

/-- The class scores, and a predictor's negated log-probability of class 0. -/
theorem v25_at (b : Fin 16) (n : Fin 980) (k : Fin 20) :
    (fin m c main_v25 : FVec Ideal S16x14x14x5x20 .f32) (ix5 b (gr n) (gc n) (ga n) k) = score (px m c b) n k := by
  have h := Eqns.seg (eqn0 m c) 33 1
  dsimp only [part0, List.cons_append, List.nil_append, List.drop, List.take, Eqns, Step.Eqn, Step.out, Step.val] at h
  simp only [h]; pointwise
  exact congrArg (fun q => (fin m c main_arg0 : FVec Ideal S16x14x14x5x25 .f32) (ix5 b (gr n) (gc n) (ga n) q)) (Fin.ext (Nat.add_comm 5 k.val))

theorem v344_at (b : Fin 16) (n : Fin 980) :
    (fin m c main_v344 : FVec Ideal S16x14x14x5 .f32) (ix4 b (gr n) (gc n) (ga n)) =
      -(score (px m c b) n 0 - cmax (px m c b) n - lse (px m c b) n) := by
  have h := Eqns.seg (eqn6 m c) 56 18
  dsimp only [part6, List.cons_append, List.nil_append, List.drop, List.take, Eqns, Step.Eqn, Step.out, Step.val] at h
  simp only [TRef.toBuf, TRef.ofBuf, cast_eq] at h
  simp only [h, id_eq]; pointwise
  clear h
  have e : (fun k => (fin m c main_v25 : FVec Ideal S16x14x14x5x20 .f32) (ix5 b (gr n) (gc n) (ga n) k)) = score (px m c b) n :=
    funext fun k => v25_at m c b n k
  have em : max (Ideal.ofBits .f32 4286578688#32) (Finset.fold max (Ideal.ofBits .f32 4286578688#32)
      (fun k => (fin m c main_v25 : FVec Ideal S16x14x14x5x20 .f32) (ix5 b (gr n) (gc n) (ga n) k)) Finset.univ) = cmax (px m c b) n := by
    rw [fold_max_sup, e, ofBits_negInf, max_eq_right bot_le, cmax_score]
  rw [em, v25_at]
  refine congrArg (fun s => -(score (px m c b) n 0 - cmax (px m c b) n - Ideal.log s)) (Finset.sum_congr rfl fun k _ => ?_)
  rw [v25_at]

/-- The class loss before its weight. -/
theorem v345_eq (hx : ∀ b, RealScores (px m c b)) :
    (fin m c main_v345 : FVec Ideal S_ .f32) ix0 = (∑ b, Yolo.cls (px m c b) : EReal) := by
  have h := Eqns.seg (eqn7 m c) 0 2
  dsimp only [part7, List.cons_append, List.nil_append, List.drop, List.take, Eqns, Step.Eqn, Step.out, Step.val] at h
  simp only [h]; pointwise
  clear h
  rw [total4]
  exact sum_same _ _ fun b => (sum_same _ _ fun n => v344_at m c b n).trans (cls_log _ (hx b))

/-- The only index of a scalar. -/
theorem scalar (j : S_.Idx) : j = ix0 := funext fun a => a.elim0

/-- The four results. -/
theorem v329_eq (hE : ∀ b, Eight (bt m c b)) :
    (fin m c main_v329 : FVec Ideal S_ .f32) = fun _ => ((5 / 16 : ℝ) : EReal) * ∑ b, Yolo.loc (px m c b) (bt m c b) := by
  funext j
  rw [scalar j]
  have h := Eqns.seg (eqn6 m c) 37 4
  dsimp only [part6, List.cons_append, List.nil_append, List.drop, List.take, Eqns, Step.Eqn, Step.out, Step.val] at h
  simp only [h]; pointwise
  clear h
  rw [v327_eq m c hE, five, mean]

theorem v340_eq (hE : ∀ b, Eight (bt m c b)) :
    (fin m c main_v340 : FVec Ideal S_ .f32) = fun _ => ((1 / 16 : ℝ) : EReal) * ∑ b, Yolo.conf (px m c b) (bt m c b) := by
  funext j
  rw [scalar j]
  have h := Eqns.seg (eqn6 m c) 54 2
  dsimp only [part6, List.cons_append, List.nil_append, List.drop, List.take, Eqns, Step.Eqn, Step.out, Step.val] at h
  simp only [h]; pointwise
  clear h
  rw [v339_eq m c hE, mean_one]

theorem v347_eq (hx : ∀ b, RealScores (px m c b)) :
    (fin m c main_v347 : FVec Ideal S_ .f32) = fun _ => ((2 / 16 : ℝ) : EReal) * ∑ b, Yolo.cls (px m c b) := by
  funext j
  rw [scalar j]
  have h := Eqns.seg (eqn7 m c) 2 4
  dsimp only [part7, List.cons_append, List.nil_append, List.drop, List.take, Eqns, Step.Eqn, Step.out, Step.val] at h
  simp only [h]; pointwise
  clear h
  rw [v345_eq m c hx]
  exact (congrArg (fun w => Ideal.div (w * _) _) c2_eq).trans (mean 2 _)

theorem v349_eq (A B C : EReal) (hA : (fin m c main_v329 : FVec Ideal S_ .f32) = fun _ => A) (hB : (fin m c main_v340 : FVec Ideal S_ .f32) = fun _ => B)
    (hC : (fin m c main_v347 : FVec Ideal S_ .f32) = fun _ => C) : (fin m c main_v349 : FVec Ideal S_ .f32) = fun _ => A + B + C := by
  funext j
  have h := Eqns.seg (eqn7 m c) 6 2
  dsimp only [part7, List.cons_append, List.nil_append, List.drop, List.take, Eqns, Step.Eqn, Step.out, Step.val] at h
  simp only [h]; pointwise
  rw [hA, hB, hC]

end Cert.ReferenceIdeal.Line

end
-- ==== Proof.Pre.lean ====
/- What the precondition says of the arguments: the first eight boxes of every image count and no other does, and every
   class score is real. -/
module

public import proofs.«01_k».proof.Proof.Gen.Pre_eight_boxes_finite_logits
public import proofs.«01_k».proof.Proof.Ref2
public import proofs.«01_k».proof.Proof.Sums

@[expose] public section

noncomputable section

namespace Cert.Pre_eight_boxes_finite_logits

open Idealize.ShloMosaic Yolo

theorem and_one {x y : BitVec 1} (h : IntOp.andi x y = 1#1) : x = 1#1 ∧ y = 1#1 := by
  revert x y; decide

theorem bit_same {x y : BitVec 1} (h : IntOp.cmpi .eq x y = 1#1) : x = y := by
  revert x y; decide

/-- A conjunction of bits that is one has only ones. -/
theorem fold_and {ι : Type} (s : Finset ι) (f : ι → BitVec 1) (h : s.fold IntOp.andi 1#1 f = 1#1) : ∀ i ∈ s, f i = 1#1 := by
  classical
  induction s using Finset.induction_on with
  | empty => exact fun i hi => absurd hi (Finset.notMem_empty i)
  | insert j s hj ih =>
    rw [Finset.fold_insert hj] at h
    obtain ⟨h1, h2⟩ := and_one h
    intro i hi
    rcases Finset.mem_insert.mp hi with rfl | hi
    · exact h1
    · exact ih h2 i hi

theorem of_bit {p : Prop} [Decidable p] (h : BitVec.ofBool (decide p) = 1#1) : p := by
  by_contra hn
  rw [decide_eq_false hn] at h
  exact absurd h (by decide)

theorem small {p : Prop} [Decidable p] {i : Fin 30} (h : BitVec.ofBool (decide p) = IntOp.cmpi .slt (BitVec.ofNat 32 i.val) 8#32) : p ↔ i.val < 8 := by
  have e : ∀ i : Fin 30, IntOp.cmpi .slt (BitVec.ofNat 32 i.val) 8#32 = BitVec.ofBool (decide (i.val < 8)) := by decide
  rw [e] at h
  by_cases hp : p <;> by_cases hi : i.val < 8 <;> simp [hp, hi] at h ⊢

/-- An extended real whose absolute value is below infinity is real. -/
theorem real_of_abs {v : EReal} (h : FloatOps.absf (F := Ideal) (φ := .f32) v < Ideal.ofBits .f32 2139095040#32) : ∃ r : ℝ, v = r := by
  have e : Ideal.ofBits .f32 2139095040#32 = ⊤ := by simp [Ideal.ofBits, Ideal.ieee]
  rw [e] at h
  induction v using EReal.rec with
  | coe r => exact ⟨r, rfl⟩
  | bot => exact absurd h (by simp [FloatOps.absf])
  | top => exact absurd h (by simp [FloatOps.absf])

variable (a : FVec Ideal S16x14x14x5x25 .f32) (t : FVec Ideal S16x30x5 .f32)

include a t in
/-- The precondition as a fold over the boxes and one over the scores. -/
theorem parts (h : fn (F := Ideal) a t = fun _ => 1#1) :
    (∀ b i, half < t (ix3 b i 4) ↔ i.val < 8) ∧ ∀ b r c g (k : Fin 20), ∃ v : ℝ, a (ix5 b r c g ⟨5 + k.val, by omega⟩) = v := by
  have h0 := congrFun h ix0
  pointwise [fn] at h0
  obtain ⟨h1, h2⟩ := and_one h0
  refine ⟨fun b i => ?_, fun b r c g k => ?_⟩
  · have e := bit_same (fold_and _ _ h1 (b, i) (Finset.mem_univ _))
    exact small e
  · have e := fold_and _ _ h2 (ix5 b r c g k) (Finset.mem_filter.mpr ⟨Finset.mem_univ _, funext fun q => q.elim0⟩)
    exact real_of_abs (of_bit e)

/-- The first eight boxes of each image count, and no other. -/
theorem eight (h : fn (F := Ideal) a t = fun _ => 1#1) (b : Fin 16) : Cert.ReferenceIdeal.Line.Eight fun i k => t (ix3 b i k) :=
  (parts a t h).1 b

/-- Every class score is real. -/
theorem real_scores (h : fn (F := Ideal) a t = fun _ => 1#1) (b : Fin 16) : RealScores fun n k => a (ix5 b (gr n) (gc n) (ga n) k) := fun n k => by
  obtain ⟨v, hv⟩ := (parts a t h).2 b (gr n) (gc n) (ga n) k
  exact ⟨v, (congrArg (fun q => a (ix5 b (gr n) (gc n) (ga n) q)) (Fin.ext (Nat.add_comm k.val 5))).trans hv⟩

end Cert.Pre_eight_boxes_finite_logits

end
-- ==== Proof.Final.lean ====
/- The two programs' results agree. -/
module

public import proofs.«01_k».proof.Defs
public import proofs.«01_k».proof.Proof.Tail
public import proofs.«01_k».proof.Proof.Ref6
public import proofs.«01_k».proof.Proof.Pre
public import proofs.«01_k».proof.Proof.RefLine
public import Idealize.ShloMosaic.Lib.Claim
public import Idealize.ShloMosaic.Lib.Pointwise

@[expose] public section

set_option maxRecDepth 16384

noncomputable section

namespace Cert.Proof

open Idealize.ShloMosaic Idealize.ShloMosaic.TcCoe Idealize.SL.Sem Yolo
open Cert.KernelIdeal.Image (ax at' locOf confOf clsOf ends)
open Cert.ReferenceIdeal.Line (px bt fin Eight)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal_eight_boxes_finite_logits m)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))

include h0 in
/-- Both programs read the same images. -/
theorem same_pred : px m' c = ax m c :=
  funext fun _ => funext fun _ => funext fun _ => congrFun ((Cert.ReferenceIdeal.Line.fin_arg0 m' c).trans h0) _
include h1 in
theorem same_boxes : bt m' c = at' m c :=
  funext fun _ => funext fun _ => funext fun _ => congrFun ((Cert.ReferenceIdeal.Line.fin_arg1 m' c).trans h1) _

include hpre in
/-- What the precondition says of them. -/
theorem boxes (b : Fin 16) : Eight (at' m c b) := Cert.Pre_eight_boxes_finite_logits.eight _ _ (hpre c) b
include hpre in
theorem scores (b : Fin 16) : RealScores (ax m c b) := Cert.Pre_eight_boxes_finite_logits.real_scores _ _ (hpre c) b

theorem conf_real : ∃ s : Fin 16 → ℝ, ∀ b, confOf m c b = s b := by
  classical
  exact (conf_grid (ax m c) (at' m c) (fun b n => if Obj (ax m c b) (at' m c b) n then 1 else 0)
    (fun b n => 1 - if Obj (ax m c b) (at' m c b) n then 1 else 0) (fun b n => if_congr Iff.rfl rfl rfl) (fun b n => rfl)).2

include hpre in
theorem cls_real : ∃ s : Fin 16 → ℝ, ∀ b, clsOf m c b = s b := by
  choose s hs using fun b => cls_coe (ax m c b) (scores m hpre c b)
  exact ⟨s, hs⟩

section Results

include hpre h0 h1

/-- The four results agree. -/
theorem loc_same : (fin m' c Cert.ReferenceIdeal.main_v329 : FVec Ideal Cert.ReferenceIdeal.S_ .f32) = ends m c Cert.KernelIdeal.main_v3 := by
  refine Eq.trans ?_ (Cert.KernelIdeal.Image.end_v3 m c).symm
  refine (Cert.ReferenceIdeal.Line.v329_eq m' c fun b => ?_).trans ?_
  · rw [same_boxes m m' c h1]; exact boxes m hpre c b
  · rw [same_boxes m m' c h1, same_pred m m' c h0]; rfl

theorem conf_same : (fin m' c Cert.ReferenceIdeal.main_v340 : FVec Ideal Cert.ReferenceIdeal.S_ .f32) = ends m c Cert.KernelIdeal.main_v4 := by
  refine Eq.trans ?_ (Cert.KernelIdeal.Image.end_v4 m c (conf_real m c)).symm
  refine (Cert.ReferenceIdeal.Line.v340_eq m' c fun b => ?_).trans ?_
  · rw [same_boxes m m' c h1]; exact boxes m hpre c b
  · rw [same_boxes m m' c h1, same_pred m m' c h0]; rfl

theorem cls_same : (fin m' c Cert.ReferenceIdeal.main_v347 : FVec Ideal Cert.ReferenceIdeal.S_ .f32) = ends m c Cert.KernelIdeal.main_v5 := by
  refine Eq.trans ?_ (Cert.KernelIdeal.Image.end_v5 m c (cls_real m hpre c)).symm
  refine (Cert.ReferenceIdeal.Line.v347_eq m' c fun b => ?_).trans ?_
  · rw [same_pred m m' c h0]; exact scores m hpre c b
  · rw [same_pred m m' c h0]; rfl

theorem total_same : (fin m' c Cert.ReferenceIdeal.main_v349 : FVec Ideal Cert.ReferenceIdeal.S_ .f32) = ends m c Cert.KernelIdeal.main_v7 := by
  refine Eq.trans ?_ (Cert.KernelIdeal.Image.end_v7 m c (conf_real m c) (cls_real m hpre c)).symm
  exact Cert.ReferenceIdeal.Line.v349_eq m' c _ _ _
    ((loc_same m m' hpre c h0 h1).trans (Cert.KernelIdeal.Image.end_v3 m c))
    ((conf_same m m' hpre c h0 h1).trans (Cert.KernelIdeal.Image.end_v4 m c (conf_real m c)))
    ((cls_same m m' hpre c h0 h1).trans (Cert.KernelIdeal.Image.end_v5 m c (cls_real m hpre c)))

end Results

/-- From the same arguments, under the precondition, the kernel and the reference end with the same four results. -/
theorem algebraic : Cert.algebraic_KernelIdeal_ReferenceIdeal_pre_eight_boxes_finite_logits := by
  pair_intro
  · run_from Cert.KernelIdeal.Gen.run_main m g
    exact Cert.KernelIdeal.Gen.W_main_arg0 m _ _
  · run_from Cert.ReferenceIdeal.Line.run m' g'
    · exact total_same m m' hpre c (hagree c).1 (hagree c).2
    · exact loc_same m m' hpre c (hagree c).1 (hagree c).2
    · exact conf_same m m' hpre c (hagree c).1 (hagree c).2
    · exact cls_same m m' hpre c (hagree c).1 (hagree c).2
    · exact (Cert.ReferenceIdeal.Line.fin_arg0 m' c).trans (hagree c).1
    · exact (Cert.ReferenceIdeal.Line.fin_arg1 m' c).trans (hagree c).2

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_eight_boxes_finite_logits
public import proofs.«01_k».proof.Proof.RefLine
public import proofs.«01_k».proof.Proof.Final
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments unchanged and every semaphore at zero. -/
theorem frame_reference : Cert.quiescent_ReferenceIdeal := fun m g _ =>
  (θ_run _ _ _).mono (fun r h => ⟨fun c =>
    ⟨(h c Cert.ReferenceIdeal.main_arg0).trans (Cert.ReferenceIdeal.Line.fin_arg0 m c),
     (h c Cert.ReferenceIdeal.main_arg1).trans (Cert.ReferenceIdeal.Line.fin_arg1 m c)⟩,
    sem_eq_zero_of_no_sems rfl r.2⟩) (Cert.ReferenceIdeal.Line.run m g)

theorem claim : Cert.Claim :=
  ⟨Cert.Kernel.Gen.facts, Cert.KernelIdeal.Gen.facts, Cert.ReferenceIdeal.Gen.facts, Cert.Pre_eight_boxes_finite_logits.Gen.facts,
   fun m ρ _ => Cert.Kernel.Gen.frame m ρ, fun m ρ _ => Cert.KernelIdeal.Gen.frame m ρ, fun m ρ _ => Cert.KernelIdeal.Gen.frame m ρ,
   frame_reference, fun m ρ _ => frame_reference m ρ trivial, trivial, algebraic⟩

end Cert.Proof

end
